-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 256]⟩ ⟨2, ![256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S64x256 : Shape := ⟨2, ![64, 256]⟩
abbrev S16x256x128 : Shape := ⟨3, ![16, 256, 128]⟩
abbrev S3x64x256 : Shape := ⟨3, ![3, 64, 256]⟩
abbrev S11 : Shape := ⟨1, ![11]⟩
abbrev S8 : Shape := ⟨1, ![8]⟩
abbrev S1 : Shape := ⟨1, ![1]⟩
abbrev S_ : Shape := ⟨0, ![]⟩
abbrev S512x128 : Shape := ⟨2, ![512, 128]⟩
abbrev S256x128 : Shape := ⟨2, ![256, 128]⟩
abbrev S1x256x128 : Shape := ⟨3, ![1, 256, 128]⟩
abbrev S128x512 : Shape := ⟨2, ![128, 512]⟩
abbrev S64x512 : Shape := ⟨2, ![64, 512]⟩
abbrev S1x64x256 : Shape := ⟨3, ![1, 64, 256]⟩

abbrev nBuf : Space → Nat
  | .hbm => 8
  | .vmem => 12
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S64x256, .f32⟩
  | .local _ .vmem, ⟨0, _⟩ => ⟨S64x256, .f32⟩
  | .local _ .vmem, ⟨1, _⟩ => ⟨S256x256, .f32⟩
  | .local _ .vmem, ⟨2, _⟩ => ⟨S256x512, .f32⟩
  | .local _ .vmem, ⟨3, _⟩ => ⟨S512x256, .f32⟩
  | .local _ .vmem, ⟨4, _⟩ => ⟨S256x512, .f32⟩
  | .local _ .vmem, ⟨5, _⟩ => ⟨S512x256, .f32⟩
  | .local _ .vmem, ⟨6, _⟩ => ⟨S256x512, .f32⟩
  | .local _ .vmem, ⟨7, _⟩ => ⟨S512x256, .f32⟩
  | .local _ .vmem, ⟨8, _⟩ => ⟨S16x256x128, .bf16⟩
  | .local _ .vmem, ⟨9, _⟩ => ⟨S256x256, .bf16⟩
  | .local _ .vmem, ⟨10, _⟩ => ⟨S256x512, .bf16⟩
  | .local _ .vmem, ⟨11, _⟩ => ⟨S3x64x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_6 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_5 : BitVec 32 := 1#32
  let v20 : BitVec 32 := Scalar.muli v3 c1_i32_5
  let v21 : BitVec 32 := Scalar.addi c0_i32_6 v20
  v21.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_8 : BitVec 32 := 1#32
  let v22 : BitVec 32 := Scalar.muli v4 c1_i32_8
  let v23 : BitVec 32 := Scalar.addi c0_i32_9 v22
  v23.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_29 : BitVec 32 := 1#32
  let v48 : BitVec 32 := Scalar.muli v3 c1_i32_29
  let v49 : BitVec 32 := Scalar.addi c0_i32_30 v48
  v49.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_41 : BitVec 32 := 1#32
  let v62 : BitVec 32 := Scalar.muli v4 c1_i32_41
  let v63 : BitVec 32 := Scalar.addi c0_i32_42 v62
  v63.toNat
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_77 : BitVec 32 := 1#32
  let v98 : BitVec 32 := Scalar.muli v4 c1_i32_77
  let v99 : BitVec 32 := Scalar.addi c0_i32_78 v98
  v99.toNat
def k0_dev6 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_109 : BitVec 32 := 1#32
  let v130 : BitVec 32 := Scalar.muli v3 c1_i32_109
  let v131 : BitVec 32 := Scalar.addi c0_i32_110 v130
  v131.toNat
def k0_dev7 (d0 : Dev nD) : Nat :=
  let c0_i32_170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_169 : BitVec 32 := 1#32
  let v198 : BitVec 32 := Scalar.muli v3 c1_i32_169
  let v199 : BitVec 32 := Scalar.addi c0_i32_170 v198
  v199.toNat
def k0_dev8 (d0 : Dev nD) : Nat :=
  let c0_i32_180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_179 : BitVec 32 := 1#32
  let v212 : BitVec 32 := Scalar.muli v4 c1_i32_179
  let v213 : BitVec 32 := Scalar.addi c0_i32_180 v212
  v213.toNat
def k0_dev9 (d0 : Dev nD) : Nat :=
  let c0_i32_214 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_213 : BitVec 32 := 1#32
  let v248 : BitVec 32 := Scalar.muli v4 c1_i32_213
  let v249 : BitVec 32 := Scalar.addi c0_i32_214 v248
  v249.toNat
def k0_dev10 (d0 : Dev nD) : Nat :=
  let c0_i32_245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_244 : BitVec 32 := 1#32
  let v280 : BitVec 32 := Scalar.muli v3 c1_i32_244
  let v281 : BitVec 32 := Scalar.addi c0_i32_245 v280
  v281.toNat
def k0_off1 (d0 : Dev nD) (c2_i32_300 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v343 : BitVec 32 := Scalar.addi v2 c2_i32_300
  let c4_i32_301 : BitVec 32 := 4#32
  let v344 : BitVec 32 := Scalar.remsi v343 c4_i32_301
  let c64_i32 : BitVec 32 := 64#32
  let v345 : BitVec 32 := Scalar.muli v344 c64_i32
  let v346 : Index := Scalar.indexCast v345
  let c0_302 : Index := 0#32
  ![v346.toNat, 0]
def k0_off2 (d0 : Dev nD) (c2_i32_300 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v343 : BitVec 32 := Scalar.addi v2 c2_i32_300
  let c4_i32_301 : BitVec 32 := 4#32
  let v344 : BitVec 32 := Scalar.remsi v343 c4_i32_301
  let c64_i32 : BitVec 32 := 64#32
  let v345 : BitVec 32 := Scalar.muli v344 c64_i32
  let v350 : Index := Scalar.indexCast v345
  let c0_304 : Index := 0#32
  ![v350.toNat, 0]
def k0_off3 (d0 : Dev nD) (c2_i32_300 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v343 : BitVec 32 := Scalar.addi v2 c2_i32_300
  let c4_i32_301 : BitVec 32 := 4#32
  let v344 : BitVec 32 := Scalar.remsi v343 c4_i32_301
  let c64_i32 : BitVec 32 := 64#32
  let v345 : BitVec 32 := Scalar.muli v344 c64_i32
  let c0_i32_312 : BitVec 32 := 0#32
  ![v345.toNat, 0]
def k0_dev11 (d0 : Dev nD) : Nat :=
  let c0_i32_309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_300 : BitVec 32 := 2#32
  let v343 : BitVec 32 := Scalar.addi v2 c2_i32_300
  let c4_i32_301 : BitVec 32 := 4#32
  let v344 : BitVec 32 := Scalar.remsi v343 c4_i32_301
  let c1_i32_308 : BitVec 32 := 1#32
  let v354 : BitVec 32 := Scalar.muli v344 c1_i32_308
  let v355 : BitVec 32 := Scalar.addi c0_i32_309 v354
  v355.toNat
def k0_dev12 (d0 : Dev nD) : Nat :=
  let c0_i32_323 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_313 : BitVec 32 := 1#32
  let v363 : BitVec 32 := Scalar.addi v2 c1_i32_313
  let c4_i32_314 : BitVec 32 := 4#32
  let v364 : BitVec 32 := Scalar.remsi v363 c4_i32_314
  let c1_i32_322 : BitVec 32 := 1#32
  let v374 : BitVec 32 := Scalar.muli v364 c1_i32_322
  let v375 : BitVec 32 := Scalar.addi c0_i32_323 v374
  v375.toNat
def k0_dev13 (d0 : Dev nD) : Nat :=
  let c0_i32_337 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_327 : BitVec 32 := 3#32
  let v383 : BitVec 32 := Scalar.addi v2 c3_i32_327
  let c4_i32_328 : BitVec 32 := 4#32
  let v384 : BitVec 32 := Scalar.remsi v383 c4_i32_328
  let c1_i32_336 : BitVec 32 := 1#32
  let v394 : BitVec 32 := Scalar.muli v384 c1_i32_336
  let v395 : BitVec 32 := Scalar.addi c0_i32_337 v394
  v395.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_341 : BitVec 32 := 64#32
  let v403 : BitVec 32 := Scalar.muli v2 c64_i32_341
  let v404 : Index := Scalar.indexCast v403
  let c0_342 : Index := 0#32
  ![v404.toNat, 0]
abbrev stage0_0 : Fin 1 → Memref sig .tc .vmem S64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S256x256 : Shape := ⟨2, ![256, 256]⟩
abbrev S256x2048 : Shape := ⟨2, ![256, 2048]⟩
abbrev S2048x256 : Shape := ⟨2, ![2048, 256]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S256x2048, .f32⟩
  | .hbm, ⟨8, _⟩ => ⟨S_, .f32⟩
  | .hbm, ⟨9, _⟩ => ⟨S256x2048, .f32⟩
  | .hbm, ⟨10, _⟩ => ⟨S256x2048, .f32⟩
  | .hbm, ⟨11, _⟩ => ⟨S256x256, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S256x256, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Slots.lean ====
/-
# The slots of the communication buffers

The kernel keeps its traffic in three scratch buffers: sixteen slots of one product tile each, three slots of one
reduced row block each, and the four row blocks of the last layer's partial. This module states what an access
through one slot touches and what it leaves there.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdx

@[expose] public section

noncomputable section

namespace Cert.Tower

open Cert.KernelIdeal Cert.KernelIdeal.Gen
open Idealize.ShloMosaic
open Idealize.ShloMosaic.TcCoe
open Idealize.ShloMosaic.ValueIdx

variable {F : FTy → Type} [FloatOps F]

/-! ## Slots of a rank-three buffer -/

section Stack
variable {n a b : ℕ}

abbrev Stack (n a b : ℕ) : Shape := ⟨3, ![n, a, b]⟩
abbrev Page (a b : ℕ) : Shape := ⟨2, ![a, b]⟩

/-- The elements of slot `k`. -/
def pageSet (k : ℕ) : Finset (Stack n a b).Idx := Finset.univ.filter fun i => (i 0).val = k

theorem mem_pageSet {k : ℕ} {i : (Stack n a b).Idx} : i ∈ pageSet k ↔ (i 0).val = k := by simp [pageSet]

/-- One tile, repeated in every slot. -/
def fill {α : Type} (v : (Stack 1 a b).Idx → α) : (Stack n a b).Idx → α := fun i => v (ix3 (0 : Fin 1) (i 1) (i 2))

/-- One page, repeated in every slot. -/
def fillPage {α : Type} (v : (Page a b).Idx → α) : (Stack n a b).Idx → α := fun i => v (ix2 (i 1) (i 2))

abbrev PageIn (n a b k : ℕ) : Prop := ∀ d, (![k, 0, 0] : Fin 3 → ℕ) d + (Stack 1 a b).size d ≤ (Stack n a b).size d

abbrev pageRect (k : ℕ) (h : PageIn n a b k) : Rect (Stack n a b) := Rect.unit (s := Stack n a b) ![k, 0, 0] (Stack 1 a b).size h

theorem PageIn.lt {k : ℕ} (h : PageIn n a b k) : k < n := by have := h 0; simp at this; omega

theorem pageRect_set (k : ℕ) (h : PageIn n a b k) : (pageRect k h).set = pageSet k := by
  ext i
  rw [mem_pageSet]
  constructor
  · intro hi
    have h0 := (Rect.mem_set_unit.mp hi) 0
    simp at h0; omega
  · intro hi
    refine Rect.mem_set_unit.mpr fun d => ?_
    fin_cases d
    · simp; omega
    · have := (i 1).isLt; simpa using this
    · have := (i 2).isLt; simpa using this

theorem pageRect_idx (k : ℕ) (h : PageIn n a b k) (x : (Stack 1 a b).Idx) :
    (pageRect k h).emb x = (ix3 ⟨k, h.lt⟩ (x 1) (x 2) : (Stack n a b).Idx) := by
  funext d
  apply Fin.ext
  rw [Rect.emb_apply]
  have h0 : (x 0).val = 0 := by have := (x 0).isLt; simp at this; exact this
  fin_cases d
  · show k + 1 * (x 0).val = k; omega
  · show 0 + 1 * (x 1).val = (x 1).val; omega
  · show 0 + 1 * (x 2).val = (x 2).val; omega

theorem fill_page {α : Type} (v : (Stack 1 a b).Idx → α) (k : ℕ) (h : PageIn n a b k) (x : (Stack 1 a b).Idx) :
    fill (n := n) v ((pageRect k h).emb x) = v x := by
  rw [pageRect_idx]
  unfold fill
  congr 1
  conv_rhs => rw [eq_ix3 x]
  have h0 : (0 : Fin 1) = x 0 := Subsingleton.elim (α := Fin 1) _ _
  rw [h0]
  rfl

theorem pages_union : (Finset.univ : Finset (Fin n)).biUnion (fun k => pageSet (a := a) (b := b) k.val) = (Finset.univ : Finset (Stack n a b).Idx) := by
  ext i
  simp only [Finset.mem_biUnion, Finset.mem_univ, true_and, iff_true, mem_pageSet]
  exact ⟨i 0, rfl⟩

theorem pages_disjoint {k l : ℕ} (h : k ≠ l) : Disjoint (pageSet (n := n) (a := a) (b := b) k) (pageSet l) := by
  rw [Finset.disjoint_left]
  intro i hi hj
  exact h ((mem_pageSet.mp hi).symm.trans (mem_pageSet.mp hj))

theorem squeeze_idx (h : (Page a b).numel = (Stack 1 a b).numel) (x : (Page a b).Idx) :
    Shape.reshapeEquiv h x = (ix3 (0 : Fin 1) (x 0) (x 1) : (Stack 1 a b).Idx) := by
  refine (Shape.reshapeEquiv_cons_one (d := ![a, b]) h x).trans ?_
  funext d
  fin_cases d <;> rfl

end Stack

/-! ## The product tiles' slots -/

abbrev cM : Memref sig .tc .vmem S16x256x128 .bf16 := Memref.whole cc0_scratch7
abbrev cSlot (k : ℕ) (h : PageIn 16 256 128 k) : Memref sig .tc .vmem S256x128 .bf16 :=
  (cM.slice (Rect.unit (s := S16x256x128) ![k, 0, 0] S1x256x128.size h) (fun _ => rfl)).squeeze S256x128 squeezes_S1x256x128_S256x128

theorem cSlot_set (k : ℕ) (h : PageIn 16 256 128 k) : (cSlot k h).view.set = pageSet k := by
  show ((((View.whole cc0_scratch7).slice (pageRect k h)).reshape S256x128 _).set) = _
  rw [View.set_reshape, View.set_slice_whole]
  exact pageRect_set k h

theorem cSlot_emb (k : ℕ) (h : PageIn 16 256 128 k) (x : S256x128.Idx) :
    (cSlot k h).view.emb x = (ix3 ⟨k, h.lt⟩ (x 0) (x 1) : (Stack 16 256 128).Idx) := by
  show (pageRect k h).emb (Shape.reshapeEquiv _ x) = _
  rw [squeeze_idx, pageRect_idx]

/-- A transfer from one slot to another carries the tile across. -/
theorem cSlot_dma (ks kd : ℕ) (hs : PageIn 16 256 128 ks) (hd : PageIn 16 256 128 kd) (v : Vec F S1x256x128 .bf16)
    (fd : (cc0_scratch7 : Ref sig .tc).ty.Contents (Elt F)) :
    ∀ i ∈ pageSet (n := 16) (a := 256) (b := 128) kd, (cSlot kd hd).view.write (Elt F) fd ((cSlot ks hs).view.read (Elt F) (fill v)) Finset.univ i = fill v i := by
  intro i hi
  rw [← cSlot_set kd hd] at hi
  obtain ⟨x, -, rfl⟩ := Finset.mem_map.mp hi
  refine (View.write_emb_of_mem (Val := Elt F) (v := (cSlot kd hd).view) fd _ (Finset.mem_univ x)).trans ?_
  show (fill v ((cSlot ks hs).view.emb x) : Elt F .bf16) = fill v ((cSlot kd hd).view.emb x)
  rw [cSlot_emb, cSlot_emb]
  rfl

/-- A load of a slot reads its tile. -/
theorem cSlot_load (k : ℕ) (h : PageIn 16 256 128 k) (v : Vec F S1x256x128 .bf16) :
    cM.view.readAt (Elt F) (Rect.unit (s := S16x256x128) ![k, 0, 0] S1x256x128.size h).toLoadRect (fill v) = v := by
  funext x
  exact fill_page v k h x

theorem cSlot_load_set (k : ℕ) (h : PageIn 16 256 128 k) :
    cM.view.setOn (Rect.unit (s := S16x256x128) ![k, 0, 0] S1x256x128.size h).toLoadRect.set ⊆ pageSet k := by
  intro i hi
  obtain ⟨j, hj, rfl⟩ := Finset.mem_map.mp hi
  exact (pageRect_set k h) ▸ hj

theorem cSlot_store_set (k : ℕ) (h : PageIn 16 256 128 k) :
    (cM.access (Rect.unit (s := S16x256x128) ![k, 0, 0] S1x256x128.size h)).setOn Finset.univ ⊆ pageSet k := by
  show ((View.whole cc0_scratch7).slice (pageRect k h)).set ⊆ _
  rw [View.set_slice_whole, pageRect_set]

theorem cSlot_store (k : ℕ) (h : PageIn 16 256 128 k) (v : Vec F S1x256x128 .bf16) (f : (cc0_scratch7 : Ref sig .tc).ty.Contents (Elt F)) :
    ∀ i ∈ pageSet (n := 16) (a := 256) (b := 128) k,
      (cM.access (Rect.unit (s := S16x256x128) ![k, 0, 0] S1x256x128.size h)).write (Elt F) f v Finset.univ i = fill v i := by
  intro i hi
  rw [← pageRect_set k h, ← Rect.map_emb_univ] at hi
  obtain ⟨x, -, rfl⟩ := Finset.mem_map.mp hi
  refine (View.write_emb_of_mem (Val := Elt F) (v := cM.access (pageRect k h)) f v (Finset.mem_univ x)).trans ?_
  exact (fill_page v k h x).symm

/-! ## The reduced row blocks' slots -/

abbrev rM : Memref sig .tc .vmem S3x64x256 .bf16 := Memref.whole cc0_scratch10
abbrev rSlot (k : ℕ) (h : PageIn 3 64 256 k) : Memref sig .tc .vmem S64x256 .bf16 :=
  (rM.slice (Rect.unit (s := S3x64x256) ![k, 0, 0] S1x64x256.size h) (fun _ => rfl)).squeeze S64x256 squeezes_S1x64x256_S64x256

theorem rSlot_set (k : ℕ) (h : PageIn 3 64 256 k) : (rSlot k h).view.set = pageSet k := by
  show ((((View.whole cc0_scratch10).slice (pageRect k h)).reshape S64x256 _).set) = _
  rw [View.set_reshape, View.set_slice_whole]
  exact pageRect_set k h

theorem rSlot_emb (k : ℕ) (h : PageIn 3 64 256 k) (x : S64x256.Idx) :
    (rSlot k h).view.emb x = (ix3 ⟨k, h.lt⟩ (x 0) (x 1) : (Stack 3 64 256).Idx) := by
  show (pageRect k h).emb (Shape.reshapeEquiv _ x) = _
  rw [squeeze_idx, pageRect_idx]

/-- The tile of a slot that holds the page `v`. -/
def tileOf (v : Vec F S64x256 .bf16) : Vec F S1x64x256 .bf16 := fun i => v (ix2 (i 1) (i 2))

theorem rSlot_load (k : ℕ) (h : PageIn 3 64 256 k) (v : Vec F S64x256 .bf16) :
    rM.view.readAt (Elt F) (Rect.unit (s := S3x64x256) ![k, 0, 0] S1x64x256.size h).toLoadRect (fillPage v) = tileOf v := by
  funext x
  show (fillPage v ((pageRect k h).emb x) : Elt F .bf16) = _
  rw [pageRect_idx]
  rfl

theorem rSlot_load_set (k : ℕ) (h : PageIn 3 64 256 k) :
    rM.view.setOn (Rect.unit (s := S3x64x256) ![k, 0, 0] S1x64x256.size h).toLoadRect.set ⊆ pageSet k := by
  intro i hi
  obtain ⟨j, hj, rfl⟩ := Finset.mem_map.mp hi
  exact (pageRect_set k h) ▸ hj

/-! ## The last layer's row blocks -/

abbrev pM : Memref sig .tc .vmem S256x256 .bf16 := Memref.whole cc0_scratch8
abbrev RowsIn (o : Fin 2 → ℕ) : Prop := ∀ a, o a + S64x256.size a ≤ S256x256.size a
abbrev pRows (o : Fin 2 → ℕ) (h : RowsIn o) : Memref sig .tc .vmem S64x256 .bf16 :=
  pM.slice (Rect.unit (s := S256x256) o S64x256.size h) (fun _ => rfl)

/-- The elements of row block `t`. -/
def rowSet (t : ℕ) : Finset S256x256.Idx := Finset.univ.filter fun i => (i 0).val / 64 = t

theorem mem_rowSet {t : ℕ} {i : S256x256.Idx} : i ∈ rowSet t ↔ (i 0).val / 64 = t := by simp [rowSet]

/-- One row block, repeated four times. -/
def fillRows (v : Vec F S64x256 .bf16) : Vec F S256x256 .bf16 := fun i => v (ix2 ⟨(i 0).val % 64, Nat.mod_lt _ (by decide)⟩ (i 1))

theorem pRect_set (t : ℕ) (h : RowsIn ![64 * t, 0]) : (Rect.unit (s := S256x256) ![64 * t, 0] S64x256.size h).set = rowSet t := by
  ext i
  rw [mem_rowSet]
  constructor
  · intro hi
    have h0 := (Rect.mem_set_unit.mp hi) 0
    simp at h0; omega
  · intro hi
    refine Rect.mem_set_unit.mpr fun d => ?_
    fin_cases d
    · simp; omega
    · have := (i 1).isLt; simpa using this

theorem fillRows_rect (v : Vec F S64x256 .bf16) (t : ℕ) (h : RowsIn ![64 * t, 0]) (x : S64x256.Idx) :
    fillRows v ((Rect.unit (s := S256x256) ![64 * t, 0] S64x256.size h).emb x) = v x := by
  have hx := (x 0).isLt
  simp at hx
  unfold fillRows
  conv_rhs => rw [eq_ix2 x]
  congr 1
  funext d
  fin_cases d
  · apply Fin.ext
    show (64 * t + 1 * (x 0).val) % 64 = (x 0).val
    omega
  · apply Fin.ext
    show 0 + 1 * (x 1).val = (x 1).val
    omega

theorem pRows_set (t : ℕ) (o : Fin 2 → ℕ) (ho : o = ![64 * t, 0]) (h : RowsIn o) : (pRows o h).view.set = rowSet t := by
  subst ho
  show ((View.whole cc0_scratch8).slice _).set = _
  rw [View.set_slice_whole]
  exact pRect_set t h

theorem pRows_load_set (t : ℕ) (o : Fin 2 → ℕ) (ho : o = ![64 * t, 0]) (h : RowsIn o) :
    pM.view.setOn (Rect.unit (s := S256x256) o S64x256.size h).toLoadRect.set ⊆ rowSet t := by
  subst ho
  intro i hi
  obtain ⟨j, hj, rfl⟩ := Finset.mem_map.mp hi
  exact (pRect_set t h) ▸ hj

theorem pRows_store_set (t : ℕ) (o : Fin 2 → ℕ) (ho : o = ![64 * t, 0]) (h : RowsIn o) :
    (pM.access (Rect.unit (s := S256x256) o S64x256.size h)).setOn Finset.univ ⊆ rowSet t := by
  subst ho
  show ((View.whole cc0_scratch8).slice _).set ⊆ _
  rw [View.set_slice_whole, pRect_set]

theorem pRows_store (t : ℕ) (o : Fin 2 → ℕ) (ho : o = ![64 * t, 0]) (h : RowsIn o) (v : Vec F S64x256 .bf16)
    (f : (cc0_scratch8 : Ref sig .tc).ty.Contents (Elt F)) :
    ∀ i ∈ rowSet t, (pM.access (Rect.unit (s := S256x256) o S64x256.size h)).write (Elt F) f v Finset.univ i = fillRows v i := by
  subst ho
  intro i hi
  rw [← pRect_set t h, ← Rect.map_emb_univ] at hi
  obtain ⟨x, -, rfl⟩ := Finset.mem_map.mp hi
  refine (View.write_emb_of_mem (Val := Elt F) (v := pM.access (Rect.unit (s := S256x256) ![64 * t, 0] S64x256.size h)) f v (Finset.mem_univ x)).trans ?_
  exact (fillRows_rect v t h x).symm

/-- A transfer of a row block into a slot carries the block across. -/
theorem rSlot_dma (t k : ℕ) (o : Fin 2 → ℕ) (ho : o = ![64 * t, 0]) (h : RowsIn o) (hd : PageIn 3 64 256 k) (v : Vec F S64x256 .bf16)
    (fd : (cc0_scratch10 : Ref sig .tc).ty.Contents (Elt F)) :
    ∀ i ∈ pageSet (n := 3) (a := 64) (b := 256) k, (rSlot k hd).view.write (Elt F) fd ((pRows o h).view.read (Elt F) (fillRows v)) Finset.univ i = fillPage v i := by
  subst ho
  intro i hi
  rw [← rSlot_set k hd] at hi
  obtain ⟨x, -, rfl⟩ := Finset.mem_map.mp hi
  refine (View.write_emb_of_mem (Val := Elt F) (v := (rSlot k hd).view) fd _ (Finset.mem_univ x)).trans ?_
  show (fillRows v ((Rect.unit (s := S256x256) ![64 * t, 0] S64x256.size h).emb x) : Elt F .bf16) = fillPage v ((rSlot k hd).view.emb x)
  rw [rSlot_emb, fillRows_rect]
  exact congrArg v (eq_ix2 x)

theorem rows_union : (Finset.univ : Finset (Fin 4)).biUnion (fun t => rowSet t.val) = (Finset.univ : Finset S256x256.Idx) := by
  ext i
  simp only [Finset.mem_biUnion, Finset.mem_univ, true_and, iff_true, mem_rowSet]
  have := (i 0).isLt
  exact ⟨⟨(i 0).val / 64, by simp at this; omega⟩, rfl⟩

theorem rows_disjoint {k l : ℕ} (h : k ≠ l) : Disjoint (rowSet k) (rowSet l) := by
  rw [Finset.disjoint_left]
  intro i hi hj
  exact h ((mem_rowSet.mp hi).symm.trans (mem_rowSet.mp hj))

end Cert.Tower

end
-- ==== Proof.Schedule.lean ====
/-
# What the four devices pass to one another

The four devices pair up twice: once with the neighbour that shares the upper bit of the device number, once with the
one that does not. Every tile a device sends to a partner is a function of what that device was launched with, so the
contents of each slot at each point are named here once; the schedule of the semaphores' cells (who pays into which,
and what the payment hands over) follows.
-/
module

public import proofs.«01_k».proof.Proof.Slots

@[expose] public section

noncomputable section

namespace Cert.Tower

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Devices -/

set_option backward.proofsInPublic true in
/-- The device `i` places on. -/
def shift (i : ℕ) (c : Dev nD) : Dev nD := ⟨(c.val + i) % 4, Nat.mod_lt _ (by decide)⟩

/-- The partner of the first pairing, … -/
def pA (c : Dev nD) : Dev nD := if c.val % 2 = 0 then shift 1 c else shift 3 c
/-- … and of the second. -/
def pB (c : Dev nD) : Dev nD := if c.val % 2 = 0 then shift 3 c else shift 1 c

theorem pA_pA (c : Dev nD) : pA (pA c) = c := by revert c; decide
theorem pB_pB (c : Dev nD) : pB (pB c) = c := by revert c; decide
theorem pA_pB (c : Dev nD) : pA (pB c) = shift 2 c := by revert c; decide
theorem pB_pA (c : Dev nD) : pB (pA c) = shift 2 c := by revert c; decide
theorem shift2_pA (c : Dev nD) : shift 2 (pA c) = pB c := by revert c; decide
theorem shift22 (c : Dev nD) : shift 2 (shift 2 c) = c := by revert c; decide
theorem shift13 (c : Dev nD) : shift 1 (shift 3 c) = c := by revert c; decide
theorem shift31 (c : Dev nD) : shift 3 (shift 1 c) = c := by revert c; decide
theorem pA_ne_pB (c : Dev nD) : pA c ≠ pB c := by revert c; decide

theorem dev1 (c : Dev nD) : (⟨k0_dev1 c, k0_dev1_lt c⟩ : Dev nD) = pA c := by revert c; decide +kernel
theorem dev2 (c : Dev nD) : (⟨k0_dev2 c, k0_dev2_lt c⟩ : Dev nD) = pB c := by revert c; decide +kernel
theorem dev3 (c : Dev nD) : (⟨k0_dev3 c, k0_dev3_lt c⟩ : Dev nD) = pA c := by revert c; decide +kernel
theorem dev4 (c : Dev nD) : (⟨k0_dev4 c, k0_dev4_lt c⟩ : Dev nD) = pB c := by revert c; decide +kernel
theorem dev5 (c : Dev nD) : (⟨k0_dev5 c, k0_dev5_lt c⟩ : Dev nD) = pB c := by revert c; decide +kernel
theorem dev6 (c : Dev nD) : (⟨k0_dev6 c, k0_dev6_lt c⟩ : Dev nD) = pA c := by revert c; decide +kernel
theorem dev7 (c : Dev nD) : (⟨k0_dev7 c, k0_dev7_lt c⟩ : Dev nD) = pA c := by revert c; decide +kernel
theorem dev8 (c : Dev nD) : (⟨k0_dev8 c, k0_dev8_lt c⟩ : Dev nD) = pB c := by revert c; decide +kernel
theorem dev9 (c : Dev nD) : (⟨k0_dev9 c, k0_dev9_lt c⟩ : Dev nD) = pB c := by revert c; decide +kernel
theorem dev10 (c : Dev nD) : (⟨k0_dev10 c, k0_dev10_lt c⟩ : Dev nD) = pA c := by revert c; decide +kernel
theorem dev11 (c : Dev nD) : (⟨k0_dev11 c, k0_dev11_lt c⟩ : Dev nD) = shift 2 c := by revert c; decide +kernel
theorem dev12 (c : Dev nD) : (⟨k0_dev12 c, k0_dev12_lt c⟩ : Dev nD) = shift 1 c := by revert c; decide +kernel
theorem dev13 (c : Dev nD) : (⟨k0_dev13 c, k0_dev13_lt c⟩ : Dev nD) = shift 3 c := by revert c; decide +kernel

/-- The device transfer `k` goes to: a partner for the eight tiles, the owner of the row block for the other three. -/
def tgt (k : ℕ) (c : Dev nD) : Dev nD :=
  if k < 8 then (if k = 1 ∨ k = 2 ∨ k = 5 ∨ k = 6 then pB c else pA c) else shift (k - 7) c

/-- The receive cell transfer `k` pays into. -/
def rcvOf (k : ℕ) : ℕ := if k < 8 then k else 18 - k

/-! ## Values -/

/-- What device `c` was launched with. -/
def xAt (c : Dev nD) : Vec F S256x256 .f32 := m ((c : Thread nD τ).loc main_arg0)
def wi0 (c : Dev nD) : Vec F S256x512 .f32 := m ((c : Thread nD τ).loc main_arg1)
def wi1 (c : Dev nD) : Vec F S256x512 .f32 := m ((c : Thread nD τ).loc main_arg2)
def wi2 (c : Dev nD) : Vec F S256x512 .f32 := m ((c : Thread nD τ).loc main_arg3)
def wo0 (c : Dev nD) : Vec F S512x256 .f32 := m ((c : Thread nD τ).loc main_arg4)
def wo1 (c : Dev nD) : Vec F S512x256 .f32 := m ((c : Thread nD τ).loc main_arg5)
def wo2 (c : Dev nD) : Vec F S512x256 .f32 := m ((c : Thread nD τ).loc main_arg6)

/-- The first layer's partial, left and right half, and the two tiles sent of it; -/
def l0 (c : Dev nD) : FVec F S256x128 .f32 := k0_pay4 (xAt m c) (wi0 m c) (wo0 m c)
def r0 (c : Dev nD) : FVec F S256x128 .f32 := k0_pay5 (xAt m c) (wi0 m c) (wo0 m c)
def s0 (c : Dev nD) : Vec F S1x256x128 .bf16 := k0_pay6 (xAt m c) (wi0 m c) (wo0 m c)
def s1 (c : Dev nD) : Vec F S1x256x128 .bf16 := k0_pay8 (k0_pay7 (xAt m c) (wi0 m c) (wo0 m c))
/-- each half summed over one pairing, … -/
def l1 (c : Dev nD) : FVec F S256x128 .f32 := k0_pay10 (l0 m c) (s0 m (pA c))
def s2 (c : Dev nD) : Vec F S1x256x128 .bf16 := k0_pay11 (l0 m c) (s0 m (pA c))
def r1 (c : Dev nD) : FVec F S256x128 .f32 := k0_pay12 (r0 m c) (s1 m (pB c))
def s3 (c : Dev nD) : Vec F S1x256x128 .bf16 := k0_pay13 (r0 m c) (s1 m (pB c))
/-- … and the left half over both. -/
def l2 (c : Dev nD) : FVec F S256x128 .f32 := k0_pay15 (l1 m c) (s2 m (pB c))
/-- The second layer, likewise. -/
def l3 (c : Dev nD) : FVec F S256x128 .f32 := k0_pay17 (k0_pay9 (wi1 m c)) (r1 m c) (k0_pay14 (wo1 m c)) (l2 m c) (s3 m (pA c))
def r3 (c : Dev nD) : FVec F S256x128 .f32 := k0_pay18 (k0_pay9 (wi1 m c)) (r1 m c) (k0_pay14 (wo1 m c)) (l2 m c) (s3 m (pA c))
def s4 (c : Dev nD) : Vec F S1x256x128 .bf16 := k0_pay19 (k0_pay9 (wi1 m c)) (r1 m c) (k0_pay14 (wo1 m c)) (l2 m c) (s3 m (pA c))
def s5 (c : Dev nD) : Vec F S1x256x128 .bf16 := k0_pay20 (r3 m c)
def l4 (c : Dev nD) : FVec F S256x128 .f32 := k0_pay22 (l3 m c) (s4 m (pA c))
def s6 (c : Dev nD) : Vec F S1x256x128 .bf16 := k0_pay23 (l3 m c) (s4 m (pA c))
def r4 (c : Dev nD) : FVec F S256x128 .f32 := k0_pay24 (r3 m c) (s5 m (pB c))
def s7 (c : Dev nD) : Vec F S1x256x128 .bf16 := k0_pay25 (r3 m c) (s5 m (pB c))
/-- The last layer's activations, -/
def hAt (c : Dev nD) : Vec F S256x512 .bf16 := k0_pay29 (k0_pay27 (k0_pay21 (wi2 m c)) (l4 m c) (r4 m c) (s6 m (pB c)) (s7 m (pA c))) k0_pay28

abbrev HRowsIn (o : Fin 2 → ℕ) : Prop := ∀ a, o a + S64x512.size a ≤ S256x512.size a
abbrev hM : Memref sig .tc .vmem S256x512 .bf16 := Memref.whole cc0_scratch9

theorem hrows_in (i : ℕ) (c : Dev nD) : HRowsIn ![64 * (shift i c).val, 0] := by
  intro a
  have h : (shift i c).val < 4 := (shift i c).isLt
  fin_cases a
  · show 64 * (shift i c).val + 64 ≤ 256
    omega
  · exact Nat.le_refl 512

/-- … their row block `i` places on, -/
def hRow (i : ℕ) (c : Dev nD) : Vec F S64x512 .bf16 :=
  hM.view.readAt (Elt F) (Rect.unit (s := S256x512) ![64 * (shift i c).val, 0] S64x512.size (hrows_in i c)).toLoadRect (hAt m c)

theorem hRow_eq (i : ℕ) (c : Dev nD) (o : Fin 2 → ℕ) (ho : o = ![64 * (shift i c).val, 0]) (h : HRowsIn o) :
    hM.view.readAt (Elt F) (Rect.unit (s := S256x512) o S64x512.size h).toLoadRect (hAt m c) = hRow m i c := by
  subst ho; rfl

/-- the row blocks sent to their owners, -/
def rv (i : ℕ) (c : Dev nD) : Vec F S64x256 .bf16 :=
  match i with
  | 1 => k0_pay32 (k0_pay31 (k0_pay26 (wo2 m c)) (hRow m 1 c))
  | 2 => k0_pay30 (k0_pay26 (wo2 m c)) (hRow m 2 c)
  | _ => k0_pay33 (k0_pay26 (wo2 m c)) (hRow m 3 c)

/-- and the result on device `c`. -/
def outAt (c : Dev nD) : FVec F S64x256 .f32 :=
  k0_pay1 (k0_pay35 (k0_pay34 (k0_pay26 (wo2 m c)) (hRow m 0 c)) (tileOf (rv m 3 (shift 1 c))) (tileOf (rv m 2 (shift 2 c))))
    (tileOf (rv m 1 (shift 3 c)))

/-- The tile of transfer `k`. -/
def sv (k : ℕ) (c : Dev nD) : Vec F S1x256x128 .bf16 :=
  match k with
  | 0 => s0 m c | 1 => s1 m c | 2 => s2 m c | 3 => s3 m c | 4 => s4 m c | 5 => s5 m c | 6 => s6 m c | _ => s7 m c

/-! ## The semaphores' cells -/

/-- The runtime's barrier semaphore. -/
abbrev barS : Sem sig := (SemArray.scalar (sig.barrier 0 rfl) : Sems sig S_).sem

/-- The cell numbered `n`: the barrier at `0`, elsewhere the transfer semaphore `n`. -/
abbrev csem (n : Fin 31) : SemLoc sig := if n = 0 then .reg barS else .dma n
abbrev kcell (ck : Dev nD × Fin 31) : GSem nD τ sig := ((ck.1 : Thread nD τ), csem ck.2)

abbrev barCell (c : Dev nD) : GSem nD τ sig := ((c : Thread nD τ), .reg barS)
abbrev dcell (c : Dev nD) (q : Fin 31) : GSem nD τ sig := ((c : Thread nD τ), .dma q)

theorem kcell_bar (c : Dev nD) : kcell (c, 0) = barCell c := rfl
theorem kcell_dma (c : Dev nD) (q : Fin 31) (h : q ≠ 0) : kcell (c, q) = dcell c q := by
  show ((c : Thread nD τ), (if q = 0 then (.reg barS : SemLoc sig) else .dma q)) = _
  rw [if_neg h]

theorem inb_page0 : PageIn 16 256 128 0 := by decide
theorem inb_rpage0 : PageIn 3 64 256 0 := by decide

/-- The credit of a tile, of a row block, of the activations, of a weight block. -/
def tileN : ℕ := (cSlot 0 inb_page0).view.dmaCredit
def rowN : ℕ := (rSlot 0 inb_rpage0).view.dmaCredit
def xN : ℕ := (Memref.whole cc0_scratch0 : Memref sig .tc .vmem S256x256 .f32).view.dmaCredit
def wN : ℕ := (Memref.whole cc0_scratch1 : Memref sig .tc .vmem S256x512 .f32).view.dmaCredit

theorem tileN_pos : 0 < tileN := View.dmaCredit_pos _ (by decide)
theorem rowN_pos : 0 < rowN := View.dmaCredit_pos _ (by decide)
theorem xN_pos : 0 < xN := View.dmaCredit_pos _ (by decide)
theorem wN_pos : 0 < wN := View.dmaCredit_pos _ (by decide)

/-- The credit transfer semaphore `n` is paid. -/
def creditN (n : ℕ) : ℕ := if n = 23 then xN else if 23 ≤ n then wN else if (n - 1) % 11 < 8 then tileN else rowN

theorem creditN_pos (n : ℕ) : 0 < creditN n := by
  unfold creditN
  split
  · exact xN_pos
  · split
    · exact wN_pos
    · split
      · exact tileN_pos
      · exact rowN_pos

/-! ## What is owned -/

/-- Slot `k` of device `c`'s tile buffer, with contents `f`; -/
def slotPts (c : Dev nD) (k : ℕ) (f : Vec F S16x256x128 .bf16) : sProp 𝕄 :=
  ((c : Thread nD τ).loc cc0_scratch7) ↦[pageSet (n := 16) (a := 256) (b := 128) k]{fullShare} f
def slotVal (c : Dev nD) (k : ℕ) (v : Vec F S1x256x128 .bf16) : sProp 𝕄 := slotPts c k (fill v)
def slotAny (c : Dev nD) (k : ℕ) : sProp 𝕄 := iprop(∃ f, slotPts (F := F) c k f)
/-- slot `j` of its row buffer; -/
def rsPts (c : Dev nD) (j : ℕ) (f : Vec F S3x64x256 .bf16) : sProp 𝕄 :=
  ((c : Thread nD τ).loc cc0_scratch10) ↦[pageSet (n := 3) (a := 64) (b := 256) j]{fullShare} f
def rsVal (c : Dev nD) (j : ℕ) (v : Vec F S64x256 .bf16) : sProp 𝕄 := rsPts c j (fillPage v)
def rsAny (c : Dev nD) (j : ℕ) : sProp 𝕄 := iprop(∃ f, rsPts (F := F) c j f)
/-- the row block `i` places on of its partial. -/
def rowPts (c : Dev nD) (i : ℕ) (f : Vec F S256x256 .bf16) : sProp 𝕄 :=
  ((c : Thread nD τ).loc cc0_scratch8) ↦[rowSet (shift i c).val]{fullShare} f
def rowVal (c : Dev nD) (i : ℕ) (v : Vec F S64x256 .bf16) : sProp 𝕄 := rowPts c i (fillRows v)
def rowAny (c : Dev nD) (i : ℕ) : sProp 𝕄 := iprop(∃ f, rowPts (F := F) c i f)
/-- A whole buffer. -/
def bufPts (c : Dev nD) (b : Ref sig .tc) (f : b.ty.Contents (Elt F)) : sProp 𝕄 := ((c : Thread nD τ).loc b) ↦{fullShare} f

/-- The slot of its first partner's row buffer a device sends to; -/
def jA (c : Dev nD) : ℕ := if c.val % 2 = 0 then 2 else 0
/-- of its second partner's. -/
def jB (c : Dev nD) : ℕ := if c.val % 2 = 0 then 0 else 2

/-- What a partner's arrival at the barrier hands device `c`: the slots of the partner's buffers that `c` writes, and from
    the second partner also the slot the first partner writes, which `c` passes on. -/
def barPay (c : Dev nD) (d : Bool) : sProp 𝕄 :=
  if d then iprop(slotAny (F := F) (pA c) 1 ∗ slotAny (F := F) (pA c) 7 ∗ slotAny (F := F) (pA c) 9 ∗ slotAny (F := F) (pA c) 15 ∗ rsAny (F := F) (pA c) (jA c))
  else iprop(slotAny (F := F) (pB c) 3 ∗ slotAny (F := F) (pB c) 5 ∗ slotAny (F := F) (pB c) 11 ∗ slotAny (F := F) (pB c) 13 ∗ rsAny (F := F) (pB c) (jB c)
    ∗ rsAny (F := F) (pB c) 1)

/-- What the completion of a send returns: the source. -/
def sendPay (k : ℕ) (c : Dev nD) : sProp 𝕄 :=
  if k < 8 then slotVal c (2 * k) (sv m k c) else rowVal c (k - 7) (rv m (k - 7) c)

/-- What an arrival hands over: the landing slot holding the sender's tile. -/
def recvPay (r : ℕ) (c : Dev nD) : sProp 𝕄 :=
  if r = 0 then iprop(slotVal c 1 (sv m 0 (pA c)) ∗ rsAny (F := F) (shift 2 c) 1)
  else if r < 8 then slotVal c (2 * r + 1) (sv m r (tgt r c))
  else rsVal c (r - 8) (rv m (11 - r) (shift (r - 7) c))

/-- What the completion of an argument's copy hands back: the copy and the argument. -/
def loadPay (j : ℕ) (c : Dev nD) : sProp 𝕄 :=
  match j with
  | 0 => iprop(bufPts c cc0_scratch0 (xAt m c) ∗ bufPts c main_arg0 (xAt m c))
  | 1 => iprop(bufPts c cc0_scratch1 (wi0 m c) ∗ bufPts c main_arg1 (wi0 m c))
  | 2 => iprop(bufPts c cc0_scratch2 (wo0 m c) ∗ bufPts c main_arg4 (wo0 m c))
  | 3 => iprop(bufPts c cc0_scratch3 (wi1 m c) ∗ bufPts c main_arg2 (wi1 m c))
  | 4 => iprop(bufPts c cc0_scratch4 (wo1 m c) ∗ bufPts c main_arg5 (wo1 m c))
  | 5 => iprop(bufPts c cc0_scratch5 (wi2 m c) ∗ bufPts c main_arg3 (wi2 m c))
  | 6 => iprop(bufPts c cc0_scratch6 (wo2 m c) ∗ bufPts c main_arg6 (wo2 m c))
  | _ => iprop(emp)

def dmaPay (n : ℕ) (c : Dev nD) : sProp 𝕄 :=
  if n < 12 then sendPay m (n - 1) c else if n < 23 then recvPay m (n - 12) c else loadPay m (n - 23) c

omit [FloatOps F] in
instance slotPts_storable (c : Dev nD) (k : ℕ) (f) : BI.Storable (upEmb : UEmb _ 𝕄) (slotPts (F := F) c k f) := by unfold slotPts; infer_instance
omit [FloatOps F] in
instance rsPts_storable (c : Dev nD) (k : ℕ) (f) : BI.Storable (upEmb : UEmb _ 𝕄) (rsPts (F := F) c k f) := by unfold rsPts; infer_instance
omit [FloatOps F] in
instance rowPts_storable (c : Dev nD) (k : ℕ) (f) : BI.Storable (upEmb : UEmb _ 𝕄) (rowPts (F := F) c k f) := by unfold rowPts; infer_instance
omit [FloatOps F] in
instance bufPts_storable (c : Dev nD) (b : Ref sig .tc) (f) : BI.Storable (upEmb : UEmb _ 𝕄) (bufPts (F := F) c b f) := by unfold bufPts; infer_instance
omit [FloatOps F] in
instance slotAny_storable (c : Dev nD) (k : ℕ) : BI.Storable (upEmb : UEmb _ 𝕄) (slotAny (F := F) c k) := by unfold slotAny; infer_instance
omit [FloatOps F] in
instance rsAny_storable (c : Dev nD) (k : ℕ) : BI.Storable (upEmb : UEmb _ 𝕄) (rsAny (F := F) c k) := by unfold rsAny; infer_instance
omit [FloatOps F] in
instance barPay_storable (c : Dev nD) (d : Bool) : BI.Storable (upEmb : UEmb _ 𝕄) (barPay (F := F) c d) := by
  unfold barPay; split <;> infer_instance
instance sendPay_storable (k : ℕ) (c : Dev nD) : BI.Storable (upEmb : UEmb _ 𝕄) (sendPay m k c) := by
  unfold sendPay slotVal rowVal; split <;> infer_instance
instance recvPay_storable (k : ℕ) (c : Dev nD) : BI.Storable (upEmb : UEmb _ 𝕄) (recvPay m k c) := by
  unfold recvPay slotVal rsVal; (repeat' split) <;> infer_instance
instance loadPay_storable (k : ℕ) (c : Dev nD) : BI.Storable (upEmb : UEmb _ 𝕄) (loadPay m k c) := by
  unfold loadPay; split <;> infer_instance
instance dmaPay_storable (k : ℕ) (c : Dev nD) : BI.Storable (upEmb : UEmb _ 𝕄) (dmaPay m k c) := by
  unfold dmaPay; (repeat' split) <;> infer_instance

/-! ## The schedule -/

/-- One round: a barrier cell has a duty of one unit for each partner, a transfer cell one duty of its credit. -/
def Rd : Rounds.Schedule (GSem nD τ sig) Bool 𝕄 where
  duties g r := if r = 0 ∧ g.1.2 = .tc then (match g.2 with | .reg _ => Finset.univ | .dma q => if q.val < 30 then {false} else ∅) else ∅
  unitless _ := False
  amount g _ _ := match g.2 with | .reg _ => 1 | .dma q => creditN q.val
  payload g _ d := match g.2 with | .reg _ => barPay g.1.1 d | .dma q => dmaPay m q.val g.1.1
  amount_pos g _ _ _ := by
    cases g.2 with
    | reg _ => exact Nat.one_pos
    | dma q => exact creditN_pos _

instance Rd_payload_storable (g : GSem nD τ sig) (r : ℕ) (d : Bool) : BI.Storable (upEmb : UEmb _ 𝕄) ((Rd (F := F) m).payload g r d) := by
  obtain ⟨t, s⟩ := g
  cases s with
  | reg _ => exact barPay_storable _ _
  | dma q => exact dmaPay_storable m _ _

section Sched
variable (c : Dev nD)

theorem duties_bar : (Rd (F := F) m).duties (barCell c) 0 = Finset.univ := rfl
theorem duties_dma (q : Fin 31) (h : q.val < 30) : (Rd (F := F) m).duties (dcell c q) 0 = {false} := by
  exact (if_pos (c := (0 : ℕ) = 0 ∧ (c : Thread nD τ).2 = .tc) (e := (∅ : Finset Bool)) ⟨rfl, rfl⟩).trans (if_pos h)
theorem duties_last (r : ℕ) : (Rd (F := F) m).duties (dcell c 30) r = ∅ := by
  exact ite_self (c := r = 0 ∧ (c : Thread nD τ).2 = .tc) (∅ : Finset Bool)
theorem duties_later (g : GSem nD τ sig) : ∀ r, 1 ≤ r → (Rd (F := F) m).duties g r = ∅ :=
  fun r hr => if_neg fun h => by omega

theorem amount_bar (d : Bool) : (Rd (F := F) m).amount (barCell c) 0 d = 1 := rfl
theorem amount_dma (q : Fin 31) (d : Bool) : (Rd (F := F) m).amount (dcell c q) 0 d = creditN q.val := rfl
theorem payload_bar (d : Bool) : (Rd (F := F) m).payload (barCell c) 0 d = barPay c d := rfl
theorem payload_dma (q : Fin 31) (d : Bool) : (Rd (F := F) m).payload (dcell c q) 0 d = dmaPay m q.val c := rfl

theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (q : Fin 31) (h : q.val < 30) : (Rd (F := F) m).expect (dcell c q) 0 = creditN q.val := by
  unfold Schedule.expect Schedule.amountOf; rw [duties_dma m c q h, Finset.sum_singleton, amount_dma]

theorem rest_bar : bigSep ((Rd (F := F) m).duties (barCell c) 0 \ ∅) (fun d => (Rd (F := F) m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_dma (q : Fin 31) (h : q.val < 30) :
    bigSep ((Rd (F := F) m).duties (dcell c q) 0 \ ∅) (fun d => (Rd (F := F) m).payload (dcell c q) 0 d) = dmaPay m q.val c := by
  rw [Finset.sdiff_empty, duties_dma m c q h, bigSep_singleton, payload_dma]

end Sched

/-! ## What each device owes, and the levels -/

/-- The order the transfers start in. -/
def ord (p : ℕ) : ℕ := if p < 8 then p else if p = 8 then 9 else if p = 9 then 8 else 10

set_option backward.proofsInPublic true in
/-- The receive semaphore transfer `k` pays into. -/
def rq (k : ℕ) : Fin 31 := ⟨(12 + rcvOf k) % 31, Nat.mod_lt _ (by decide)⟩

/-- What is owed with `n` transfers to go: each target's receive credit. -/
def owed (c : Dev nD) : ℕ → CellTallies nD τ sig Unit
  | 0 => 0
  | n + 1 => owed c n + tallyAt (dcell (tgt (ord (10 - n)) c) (rq (ord (10 - n)))) () (creditN (rq (ord (10 - n))).val)

/-- What a device owes at launch: the eleven transfers and a unit to each partner's barrier cell. -/
def O₁ (c : Dev nD) : CellTallies nD τ sig Unit := owed c 11 + tallyAt (barCell (pB c)) () 1
def O₀ (c : Dev nD) : CellTallies nD τ sig Unit := O₁ c + tallyAt (barCell (pA c)) () 1

def L (g : GSem nD τ sig) : Finset Unit := if g.1.2 = .tc then {()} else ∅
def lvOf : SemLoc sig → ℕ
  | .reg _ => 1
  | .dma q => if 12 ≤ q.val ∧ q.val < 23 then q.val - 10 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem owed_pos {c : Dev nD} {n : ℕ} {g : GSem nD τ sig} {u : Unit} (h : 0 < owed c n g u) :
    ∃ i < n, ∃ d : Dev nD, g = dcell d (rq (ord (10 - i))) := by
  induction n with
  | zero => exact absurd h (Nat.lt_irrefl 0)
  | succ n ih =>
    unfold owed at h
    rw [Pi.add_apply, Finsupp.add_apply, tallyAt_apply] at h
    by_cases hg : g = dcell (tgt (ord (10 - n)) c) (rq (ord (10 - n))) ∧ u = ()
    · exact ⟨n, Nat.lt_succ_self n, _, hg.1⟩
    · rw [if_neg hg] at h
      obtain ⟨i, hi, h'⟩ := ih h
      exact ⟨i, Nat.lt_succ_of_lt hi, h'⟩

omit [FloatOps F] in
/-- A wait below every transfer still owed is allowed. -/
theorem mayWait_owed (c : Dev nD) (n : ℕ) (sm : SemLoc sig) (h : ∀ i < n, lvOf sm < lvOf (.dma (rq (ord (10 - i))))) :
    (levAts L lv : sProp 𝕄) ⊢ MayWait (c : Thread nD τ) sm () (owed c n) :=
  MayOwe.of_cut (L := L) (lev := lv) (lvOf sm) (fun p hp => by rw [Finset.mem_singleton.mp hp, L_tc]; exact Finset.mem_singleton_self _)
    (fun g u hg => by obtain ⟨i, hi, d, rfl⟩ := owed_pos hg; exact Finset.mem_singleton_self _)
    (fun p hp => by rw [Finset.mem_singleton.mp hp]; exact Nat.le_refl _)
    (fun g u hg => by obtain ⟨i, hi, d, rfl⟩ := owed_pos hg; exact h i hi)

theorem O₀_pos {c : Dev nD} {g : GSem nD τ sig} {u : Unit} (h : 0 < O₀ c g u) :
    (∃ d : Dev nD, g = barCell d) ∨ ∃ i < 11, ∃ d : Dev nD, g = dcell d (rq (ord (10 - i))) := by
  unfold O₀ O₁ at h
  rw [Pi.add_apply, Finsupp.add_apply, Pi.add_apply, Finsupp.add_apply, tallyAt_apply, tallyAt_apply] at h
  by_cases ha : g = barCell (pA c) ∧ u = ()
  · exact .inl ⟨_, ha.1⟩
  · by_cases hb : g = barCell (pB c) ∧ u = ()
    · exact .inl ⟨_, hb.1⟩
    · rw [if_neg ha, if_neg hb] at h
      simp only [Nat.add_zero] at h
      exact .inr (owed_pos h)

theorem lv_owed : ∀ i < 11, 0 < lvOf (.dma (rq (ord (10 - i)))) := by decide

omit [FloatOps F] in
theorem mayWait_stage (c : Dev nD) (q : DmaSem sig) (hq : lvOf (.dma q) = 0) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨i, hi, d, rfl⟩ <;> exact Finset.mem_singleton_self _)
      (fun p hp => by rw [Finset.mem_singleton.mp hp]; exact hq.le)
      (fun g u hg => by
        rcases O₀_pos hg with ⟨d, rfl⟩ | ⟨i, hi, d, rfl⟩
        · exact Nat.one_pos
        · exact lv_owed i hi)
  · rw [MayWait_zero]; iintro -; iempintro

end Cert.Tower

end
-- ==== Proof.Steps.lean ====
/-
# The steps of the body

One lemma for each kind of effect the body has: an argument's copy started, a transfer of a tile or of a row block
started, a completion waited for, a slot read or written. Each is stated over the number of the transfer or the slot,
in continuation form.
-/
module

public import proofs.«01_k».proof.Proof.Schedule

@[expose] public section

noncomputable section

namespace Cert.Tower

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The body's programs, and what it is to run one on device `c`. -/
abbrev Body (F : FTy → Type) (α : Type) : Type 1 := Prog (TpuEff nD τ sig (Elt F) Λ₀ .tc) α
abbrev runs {α : Type} (c : Dev nD) (p : Body F α) (Q : α → sProp 𝕄) : sProp 𝕄 :=
  wp frame (wpE (defs₀ (F := F)) 𝒱₀ (c : Thread nD τ) none) Set.univ p Q

/-- Every cell's invariant, and that it has reached its one round. -/
def recs (K : Dev nD × Fin 31 → ℕ) : sProp 𝕄 :=
  bigSep Finset.univ fun ck => iprop(cellInv ER (Rd m) (K ck) (kcell ck) ∗ reached ER (kcell ck) 0)

instance recs_persistent (K : Dev nD × Fin 31 → ℕ) : BI.Persistent (recs m K) := by unfold recs; infer_instance

variable (K : Dev nD × Fin 31 → ℕ)

theorem recs_at (ck : Dev nD × Fin 31) : recs m K ⊢ iprop(cellInv ER (Rd m) (K ck) (kcell ck) ∗ reached ER (kcell ck) 0) := by
  unfold recs; exact bigSep_elim (Finset.mem_univ ck)

theorem recs_dma (c : Dev nD) (q : Fin 31) (h : q ≠ 0) :
    recs m K ⊢ iprop(cellInv ER (Rd m) (K (c, q)) (dcell c q) ∗ reached ER (dcell c q) 0) := by
  have := recs_at m K (c, q)
  rwa [kcell_dma c q h] at this

theorem recs_bar (c : Dev nD) : recs m K ⊢ iprop(cellInv ER (Rd m) (K (c, 0)) (barCell c) ∗ reached ER (barCell c) 0) :=
  recs_at m K (c, 0)

/-- What device `c` owes, whatever it has waited for. -/
def owesE (c : Dev nD) (O : CellTallies nD τ sig Unit) : sProp 𝕄 := iprop(∃ W, owes (c : Thread nD τ) O W)

/-- What every step may use: the cells' records and the levels. -/
def env : sProp 𝕄 := iprop(recs m K ∗ levAts L lv)

instance env_persistent : BI.Persistent (env m K) := by unfold env; infer_instance

/-- The waiter's hold on a cell's round, before anything is paid for, … -/
def seat (c : Dev nD) (q : Fin 31) : sProp 𝕄 := atPos ER (dcell c q) 0 ∅ 0
/-- … and with the credit that pays the wait. -/
def flight (c : Dev nD) (q : Fin 31) : sProp 𝕄 := iprop(seat (F := F) c q ∗ cred (tallyAt (dcell c q) () (creditN q.val)))
/-- A cell that is done with. -/
def shut (c : Dev nD) (q : Fin 31) : sProp 𝕄 := semVal (dcell c q) 0

set_option backward.proofsInPublic true in
/-- The semaphores of argument copy `j`, … -/
def lq (j : ℕ) : Fin 31 := ⟨(23 + j) % 31, Nat.mod_lt _ (by decide)⟩
set_option backward.proofsInPublic true in
/-- … of the start of transfer `k`, … -/
def sq (k : ℕ) : Fin 31 := ⟨(1 + k) % 31, Nat.mod_lt _ (by decide)⟩
set_option backward.proofsInPublic true in
/-- … and of arrival `r`. -/
def vq (r : ℕ) : Fin 31 := ⟨(12 + r) % 31, Nat.mod_lt _ (by decide)⟩

/-- What starting argument copy `j` takes, … -/
def fetchKit (c : Dev nD) (j : ℕ) : sProp 𝕄 := iprop(dutyTok ER (dcell c (lq j)) 0 false ∗ seat (F := F) c (lq j))
/-- … and starting transfer `k`. -/
def sendKit (c : Dev nD) (k : ℕ) : sProp 𝕄 :=
  iprop(dutyTok ER (dcell c (sq k)) 0 false ∗ dutyTok ER (dcell (tgt k c) (rq k)) 0 false ∗ seat (F := F) c (sq k))

/-! ## Waiting for a completion -/

theorem wp_done (c : Dev nD) (q : Fin 31) (O : CellTallies nD τ sig Unit)
    (hmay : (levAts L lv : sProp 𝕄) ⊢ MayWait (c : Thread nD τ) (.dma q) () O)
    (P : sProp 𝕄) (hP : dmaPay m q.val c ⊢ P)
    {sp sp' : Space} {s s' : Shape} {e e' : EltTy} {sem : DmaSem sig} (hs : sem = q)
    {src : Memref sig .tc sp' s' e'} {dst : Memref sig .tc sp s e} {h₁ : src.view.WordExact} {h₂ : dst.view.WordExact}
    (hN : dst.view.dmaCredit = creditN q.val)
    {α : Type} {Q : α → sProp 𝕄} {k : PUnit → Body F α}
    (hq : q ≠ 0 ∧ q.val < 30 := by decide) :
    iprop(env m K ∗ flight c q ∗ owesE c O)
      ⊢ iprop(((owesE c O ∗ P ∗ shut c q) -∗ runs c (k ⟨⟩) Q)
          -∗ runs c (.op (.waitDma2 sem src dst h₁ h₂) k) Q) := by
  obtain ⟨hq0, hq⟩ := hq
  subst hs
  unfold env flight seat owesE
  iintro ⟨⟨#HR, #Hlev⟩, ⟨Hat, Hcr⟩, HO⟩ Hk
  icases HO with ⟨%W, HO⟩
  ihave #Hi := (recs_dma m K c sem hq0) $$ HR
  icases Hi with ⟨#Hinv, #Hre⟩
  rw [← hN]
  iapply (Rounds.wp_wait_rest_token 𝒱₀ ER (Rd m) (c : Thread nD τ) none (κ := K (c, sem))
      (wpE_waitDma2_eq 𝒱₀ (c : Thread nD τ) none Set.univ) (Set.mem_univ _) () (O := O) (W := W) (R := 0) (m := 0) (T := ∅)
      (by rw [Nat.zero_add, expect_dma m c sem hq, hN])) $$ [Hcr HO Hat]
  · isplitr; · iexact Hinv
    isplitl [Hcr]; · iexact Hcr
    isplitl [HO]; · iexact HO
    isplitr; · iapply hmay; iexact Hlev
    iexact Hat
  iintro ⟨HO, Hat, -, Hpay⟩
  ihave Hp := (Entails.of_eq (rest_dma m c sem hq)) $$ Hpay
  imod (Rounds.cell_close ER (Rd m) (Set.mem_univ (K (c, sem))) (fun h => h) (R := 0 + 1) (duties_later m (dcell c sem))) $$ [Hat] with Hz
  · isplitr; · iexact Hinv
    iexact Hat
  iapply Hk
  isplitl [HO]; · iexists _; iexact HO
  isplitl [Hp]; · iapply hP; iexact Hp
  unfold shut; iexact Hz

/-! ## An argument's copy -/

omit [FloatOps F] in
/-- A whole buffer, seen through its view. -/
theorem buf_view (c : Dev nD) (b : Ref sig .tc) (f : b.ty.Contents (Elt F)) :
    bufPts c b f = ((Memref.whole b).view.loc (c : Thread nD τ) ↦[(Memref.whole b).view.set]{fullShare} f : sProp 𝕄) := by
  unfold bufPts; rw [show (Memref.whole b).view.set = Finset.univ from View.set_whole b]

/-- A buffer with any contents. -/
def bufAny (c : Dev nD) (b : Ref sig .tc) : sProp 𝕄 := iprop(∃ f, bufPts (F := F) c b f)

theorem lq_ne : ∀ j < 7, lq j ≠ 0 ∧ (lq j).val < 30 := by decide
theorem dmaPay_lq : ∀ j < 7, ∀ c, dmaPay m (lq j).val c = loadPay m j c := by
  intro j hj c
  interval_cases j <;> rfl

theorem wp_fetch (c : Dev nD) (j : ℕ) (hj : j < 7)
    {s : Shape} {e : EltTy} {sem : DmaSem sig} (hs : sem = lq j)
    {src : Memref sig .tc .hbm s e} {dst : Memref sig .tc .vmem s e} {h₁ : src.view.WordExact} {h₂ : dst.view.WordExact}
    {h₃ : DmaTarget.Typed (nD := nD) .hbm (.dma sem) (.here (p := (.tc : Proc τ)) dst)}
    (fs : Buf (Elt F) (src.view.loc (c : Thread nD τ))) (P D : sProp 𝕄)
    (hP : P = (src.view.loc (c : Thread nD τ) ↦[src.view.set]{fullShare} fs))
    (hD : D = iprop(∃ fd : Buf (Elt F) (dst.view.loc (c : Thread nD τ)), dst.view.loc (c : Thread nD τ) ↦[dst.view.set]{fullShare} fd))
    (hN : dst.view.dmaCredit = creditN (lq j).val)
    (hpay : ∀ fd, iprop((dst.view.loc (c : Thread nD τ) ↦[dst.view.set]{fullShare} (dst.view.write (Elt F) fd (src.view.read (Elt F) fs) Finset.univ))
        ∗ P) ⊢ loadPay m j c)
    {α : Type} {Q : α → sProp 𝕄} {k : PUnit → Body F α} :
    iprop(env m K ∗ fetchKit c j ∗ P ∗ D)
      ⊢ iprop((flight c (lq j) -∗ runs c (k ⟨⟩) Q)
          -∗ runs c (.op (.enqueueDma src (.here dst) (.dma sem) h₁ h₂ h₃) k) Q) := by
  subst hs hP hD
  unfold env fetchKit
  iintro ⟨⟨#HR, -⟩, ⟨Htok, Hat⟩, Hs, ⟨%fd, Hd⟩⟩ Hk
  ihave #Hi := (recs_dma m K c (lq j) (lq_ne j hj).1) $$ HR
  icases Hi with ⟨#Hinv, #Hre⟩
  iapply (Rounds.wp_copy_pointsTo 𝒱₀ ER (Rd m) (c : Thread nD τ) none (κ := K (c, lq j)) (r := 0) (d := false) (fs := fs) (fd := fd)
      (by rw [duties_dma m c (lq j) (lq_ne j hj).2]; exact Finset.mem_singleton_self _) () (creditN (lq j).val) (sem := .dma (lq j)) hN (amount_dma m c (lq j) false)
      (by rw [payload_dma, dmaPay_lq m j hj]; exact hpay fd)) $$ [Htok Hs Hd]
  · isplitr; · iexact Hinv
    isplitl [Hs]; · iexact Hs
    isplitl [Hd]; · iexact Hd
    isplitl [Htok]; · iexact Htok
    iexact Hre
  iintro Hc
  iapply Hk
  unfold flight
  isplitl [Hat]; · iexact Hat
  iexact Hc

theorem creditN_sq : ∀ k < 11, creditN (sq k).val = if k < 8 then tileN else rowN := by
  intro k hk
  interval_cases k <;> rfl
theorem creditN_rq : ∀ k < 11, creditN (rq k).val = if k < 8 then tileN else rowN := by
  intro k hk
  interval_cases k <;> rfl

theorem sq_ne : ∀ k < 11, sq k ≠ 0 := by decide
theorem sq_lt : ∀ k < 11, (sq k).val < 30 := by decide
theorem rq_ne : ∀ k < 11, rq k ≠ 0 := by decide
theorem rq_lt : ∀ k < 11, (rq k).val < 30 := by decide

theorem dmaPay_sq : ∀ k < 11, ∀ c, dmaPay m (sq k).val c = sendPay m k c := by
  intro k hk c
  interval_cases k <;> rfl
theorem dmaPay_rq : ∀ k < 11, ∀ c, dmaPay m (rq k).val c = recvPay m (rcvOf k) c := by
  intro k hk c
  interval_cases k <;> rfl

/-! ## A tile sent -/

theorem tgt_tgt : ∀ k < 8, ∀ c : Dev nD, tgt k (tgt k c) = c := by decide

omit [FloatOps F] in
theorem slotPts_eq (c : Dev nD) (k : ℕ) (h : PageIn 16 256 128 k) (f : Vec F S16x256x128 .bf16) :
    slotPts c k f = ((cSlot k h).view.loc (c : Thread nD τ) ↦[(cSlot k h).view.set]{fullShare} f : sProp 𝕄) := by
  rw [cSlot_set]; rfl

/-- A tile landed in the slot it was sent to. -/
theorem slot_landed (c : Dev nD) (ks kd : ℕ) (hs : PageIn 16 256 128 ks) (hd : PageIn 16 256 128 kd) (v : Vec F S1x256x128 .bf16)
    (fd : Vec F S16x256x128 .bf16) :
    ((cSlot kd hd).view.loc (c : Thread nD τ) ↦[(cSlot kd hd).view.set]{fullShare}
        ((cSlot kd hd).view.write (Elt F) fd ((cSlot ks hs).view.read (Elt F) (fill v)) Finset.univ) : sProp 𝕄) = slotVal c kd v := by
  unfold slotVal
  rw [slotPts_eq c kd hd]
  refine pointsTo_congr fun i hi => ?_
  rw [cSlot_set] at hi
  exact cSlot_dma ks kd hs hd v fd i hi

set_option maxHeartbeats 2000000 in
theorem wp_sendTile (c : Dev nD) (k : ℕ) (hk : k < 8) (n : ℕ) (hn : ord (10 - n) = k)
    {ks kd : ℕ} {hs : PageIn 16 256 128 ks} {hd : PageIn 16 256 128 kd} (hks : ks = 2 * k)
    {n' : Dev nD} (d : Dev nD) (hd' : d = tgt k c) (hdev : n' = d) {sS sem : DmaSem sig} (hsS : sS = sq k) (hsem : sem = rq k)
    {hsc : (cSlot kd hd : Memref sig (Dev.tc n' : Thread nD τ).2.kind .vmem S256x128 .bf16).view.ref.isScScratch = false}
    {h₁ : (cSlot ks hs).view.WordExact} {h₂ : (cSlot kd hd).view.WordExact}
    {h₃ : DmaTarget.Typed .vmem (.dma sem) (.remote (Dev.tc n' : Thread nD τ) (cSlot kd hd : Memref sig .tc .vmem S256x128 .bf16) (.dma sS) hsc)}
    (X : sProp 𝕄) (hpay : iprop(slotVal d kd (sv m k c) ∗ X) ⊢ recvPay m (rcvOf k) d)
    {α : Type} {Q : α → sProp 𝕄} {kk : PUnit → Body F α} :
    iprop(env m K ∗ sendKit c k ∗ slotVal c ks (sv m k c) ∗ slotAny (F := F) d kd ∗ X ∗ owesE c (owed c (n + 1)))
      ⊢ iprop(((owesE c (owed c n) ∗ flight c (sq k)) -∗ runs c (kk ⟨⟩) Q)
          -∗ runs c (.op (.enqueueDma (cSlot ks hs) (.remote (Dev.tc n' : Thread nD τ) (cSlot kd hd) (.dma sS) hsc) (.dma sem) h₁ h₂ h₃) kk) Q) := by
  subst hdev hd' hsS hsem
  have hk' : k < 11 := by omega
  unfold slotAny owesE env sendKit flight
  iintro ⟨⟨#HR, -⟩, ⟨Ht1, Ht2, Hat⟩, Hs, ⟨%fd, Hd⟩, HX, ⟨%W, HO⟩⟩ Hk
  ihave #Hi := (recs_dma m K c (sq k) (sq_ne k hk')) $$ HR
  icases Hi with ⟨#Hinv1, #Hre1⟩
  ihave #Hi := (recs_dma m K (tgt k c) (rq k) (rq_ne k hk')) $$ HR
  icases Hi with ⟨#Hinv2, #Hre2⟩
  have e1 : creditN (sq k).val = tileN := (creditN_sq k hk').trans (if_pos hk)
  have e2 : creditN (rq k).val = tileN := (creditN_rq k hk').trans (if_pos hk)
  have hO : owed c (n + 1) = owed c n + tallyAt (dcell (tgt k c) (rq k)) () tileN := by rw [owed, hn, e2]
  rw [e1]
  ihave Hs' := (Entails.of_eq (slotPts_eq c ks hs (fill (sv m k c)))) $$ [Hs]; · unfold slotVal; iexact Hs
  ihave Hd' := (Entails.of_eq (slotPts_eq (tgt k c) kd hd fd)) $$ Hd
  iapply (Rounds.wp_send_pointsTo_with 𝒱₀ ER (Rd m) (c : Thread nD τ) none (c' := (tgt k c : Thread nD τ)) (src := cSlot ks hs) (dst := cSlot kd hd) (κ₁ := K (c, sq k)) (κ₂ := K (tgt k c, rq k))
      (r₁ := 0) (r₂ := 0) (d₁ := false) (d₂ := false) (fs := fill (sv m k c)) (fd := fd) (F := X)
      (by rw [duties_dma m c (sq k) (sq_lt k hk')]; exact Finset.mem_singleton_self _)
      (by rw [duties_dma m (tgt k c) (rq k) (rq_lt k hk')]; exact Finset.mem_singleton_self _)
      () () tileN rfl ((amount_dma m c (sq k) false).trans e1) ((amount_dma m (tgt k c) (rq k) false).trans e2)
      (owed c n) hO (W := W)
      (by rw [payload_dma, dmaPay_sq m k hk']; unfold sendPay slotVal; rw [if_pos hk, ← hks, ← slotPts_eq])
      (by rw [payload_dma, dmaPay_rq m k hk', slot_landed]; exact hpay)) $$ [Hs' Hd' HX HO Ht1 Ht2]
  · isplitr; · iexact Hinv1
    isplitr; · iexact Hinv2
    isplitl [Hs']; · iexact Hs'
    isplitl [Hd' HX]
    · isplitl [Hd']; · iexact Hd'
      iexact HX
    isplitl [HO]; · iexact HO
    isplitl [Ht1]; · iexact Ht1
    isplitr; · iexact Hre1
    isplitl [Ht2]; · iexact Ht2
    iexact Hre2
  iintro ⟨Hc, HO⟩
  iapply Hk
  isplitl [HO]; · iexists W; iexact HO
  isplitl [Hat]; · iexact Hat
  iexact Hc

/-! ## A row block sent -/

omit [FloatOps F] in
theorem rsPts_eq (c : Dev nD) (k : ℕ) (h : PageIn 3 64 256 k) (f : Vec F S3x64x256 .bf16) :
    rsPts c k f = ((rSlot k h).view.loc (c : Thread nD τ) ↦[(rSlot k h).view.set]{fullShare} f : sProp 𝕄) := by
  rw [rSlot_set]; rfl

omit [FloatOps F] in
theorem rowPts_eq (c : Dev nD) (i : ℕ) (o : Fin 2 → ℕ) (ho : o = ![64 * (shift i c).val, 0]) (h : RowsIn o) (f : Vec F S256x256 .bf16) :
    rowPts c i f = ((pRows o h).view.loc (c : Thread nD τ) ↦[(pRows o h).view.set]{fullShare} f : sProp 𝕄) := by
  rw [pRows_set _ o ho h]; rfl

/-- A row block landed in the slot it was sent to. -/
theorem rs_landed (c d : Dev nD) (i j : ℕ) (o : Fin 2 → ℕ) (ho : o = ![64 * (shift i c).val, 0]) (h : RowsIn o) (hd : PageIn 3 64 256 j)
    (v : Vec F S64x256 .bf16) (fd : Vec F S3x64x256 .bf16) :
    ((rSlot j hd).view.loc (d : Thread nD τ) ↦[(rSlot j hd).view.set]{fullShare}
        ((rSlot j hd).view.write (Elt F) fd ((pRows o h).view.read (Elt F) (fillRows v)) Finset.univ) : sProp 𝕄) = rsVal d j v := by
  unfold rsVal
  rw [rsPts_eq d j hd]
  refine pointsTo_congr fun x hx => ?_
  rw [rSlot_set] at hx
  exact rSlot_dma (shift i c).val j o ho h hd v fd x hx

set_option maxHeartbeats 2000000 in
theorem wp_sendRows (c : Dev nD) (k : ℕ) (hk : 8 ≤ k) (hk' : k < 11) (n : ℕ) (hn : ord (10 - n) = k)
    {o : Fin 2 → ℕ} (ho : o = ![64 * (shift (k - 7) c).val, 0]) {ho' : RowsIn o} {j : ℕ} {hd : PageIn 3 64 256 j}
    {n' : Dev nD} (d : Dev nD) (hd' : d = tgt k c) (hdev : n' = d) {sS sem : DmaSem sig} (hsS : sS = sq k) (hsem : sem = rq k)
    {hsc : (rSlot j hd : Memref sig (Dev.tc n' : Thread nD τ).2.kind .vmem S64x256 .bf16).view.ref.isScScratch = false}
    {h₁ : (pRows o ho').view.WordExact} {h₂ : (rSlot j hd).view.WordExact}
    {h₃ : DmaTarget.Typed .vmem (.dma sem) (.remote (Dev.tc n' : Thread nD τ) (rSlot j hd : Memref sig .tc .vmem S64x256 .bf16) (.dma sS) hsc)}
    (hpay : rsVal d j (rv m (k - 7) c) ⊢ recvPay m (rcvOf k) d)
    {α : Type} {Q : α → sProp 𝕄} {kk : PUnit → Body F α} :
    iprop(env m K ∗ sendKit c k ∗ rowVal c (k - 7) (rv m (k - 7) c) ∗ rsAny (F := F) d j ∗ owesE c (owed c (n + 1)))
      ⊢ iprop(((owesE c (owed c n) ∗ flight c (sq k)) -∗ runs c (kk ⟨⟩) Q)
          -∗ runs c (.op (.enqueueDma (pRows o ho') (.remote (Dev.tc n' : Thread nD τ) (rSlot j hd) (.dma sS) hsc) (.dma sem) h₁ h₂ h₃) kk) Q) := by
  subst hdev hd' hsS hsem
  have hk8 : ¬ k < 8 := by omega
  unfold rsAny owesE env sendKit flight
  iintro ⟨⟨#HR, -⟩, ⟨Ht1, Ht2, Hat⟩, Hs, ⟨%fd, Hd⟩, ⟨%W, HO⟩⟩ Hk
  ihave #Hi := (recs_dma m K c (sq k) (sq_ne k hk')) $$ HR
  icases Hi with ⟨#Hinv1, #Hre1⟩
  ihave #Hi := (recs_dma m K (tgt k c) (rq k) (rq_ne k hk')) $$ HR
  icases Hi with ⟨#Hinv2, #Hre2⟩
  have e1 : creditN (sq k).val = rowN := (creditN_sq k hk').trans (if_neg hk8)
  have e2 : creditN (rq k).val = rowN := (creditN_rq k hk').trans (if_neg hk8)
  have hO : owed c (n + 1) = owed c n + tallyAt (dcell (tgt k c) (rq k)) () rowN := by rw [owed, hn, e2]
  rw [e1]
  ihave Hs' := (Entails.of_eq (rowPts_eq c (k - 7) o ho ho' (fillRows (rv m (k - 7) c)))) $$ [Hs]; · unfold rowVal; iexact Hs
  ihave Hd' := (Entails.of_eq (rsPts_eq (tgt k c) j hd fd)) $$ Hd
  iapply (Rounds.wp_send_pointsTo 𝒱₀ ER (Rd m) (c : Thread nD τ) none (c' := (tgt k c : Thread nD τ)) (src := pRows o ho') (dst := rSlot j hd) (κ₁ := K (c, sq k)) (κ₂ := K (tgt k c, rq k))
      (r₁ := 0) (r₂ := 0) (d₁ := false) (d₂ := false) (fs := fillRows (rv m (k - 7) c)) (fd := fd)
      (by rw [duties_dma m c (sq k) (sq_lt k hk')]; exact Finset.mem_singleton_self _)
      (by rw [duties_dma m (tgt k c) (rq k) (rq_lt k hk')]; exact Finset.mem_singleton_self _)
      () () rowN rfl ((amount_dma m c (sq k) false).trans e1) ((amount_dma m (tgt k c) (rq k) false).trans e2)
      (owed c n) hO (W := W)
      (by rw [payload_dma, dmaPay_sq m k hk']; unfold sendPay rowVal; rw [if_neg hk8, ← rowPts_eq c (k - 7) o ho])
      (by rw [payload_dma, dmaPay_rq m k hk', rs_landed c (tgt k c) (k - 7) j o ho]; exact hpay)) $$ [Hs' Hd' HO Ht1 Ht2]
  · isplitr; · iexact Hinv1
    isplitr; · iexact Hinv2
    isplitl [Hs']; · iexact Hs'
    isplitl [Hd']; · iexact Hd'
    isplitl [HO]; · iexact HO
    isplitl [Ht1]; · iexact Ht1
    isplitr; · iexact Hre1
    isplitl [Ht2]; · iexact Ht2
    iexact Hre2
  iintro ⟨Hc, HO⟩
  iapply Hk
  isplitl [HO]; · iexists W; iexact HO
  isplitl [Hat]; · iexact Hat
  iexact Hc

/-! ## Loads and stores -/

omit [FloatOps F] in
theorem wp_peek [FloatOps F] (c : Dev nD) {cs : CoreSpace} {s : Shape} {e : EltTy} {mm : Memref sig .tc cs s e} {r : LoadRect s} {hl : mm.view.LoadsAt r}
    {S : Finset (Idx (mm.view.loc (c : Thread nD τ)))} {f : Buf (Elt F) (mm.view.loc (c : Thread nD τ))} (P : sProp 𝕄) (v : r.shape.Idx → Elt F e)
    (hP : P = (mm.view.loc (c : Thread nD τ) ↦[S]{fullShare} f)) (hS : mm.view.setOn r.set ⊆ S) (hv : mm.view.readAt (Elt F) r f = v)
    {α : Type} {Q : α → sProp 𝕄} {k : (r.shape.Idx → Elt F e) → Body F α} :
    P ⊢ iprop((P -∗ runs c (k v) Q) -∗ runs c (.op (.load mm r hl) k) Q) := by
  subst hP hv
  exact wp_load 𝒱₀ (c : Thread nD τ) none Set.univ hS

omit [FloatOps F] in
theorem wp_poke [FloatOps F] (c : Dev nD) {cs : CoreSpace} {s : Shape} {e : EltTy} {mm : Memref sig .tc cs s e} {r : Rect s} {w : r.shape.Idx → Elt F e}
    {hx : (mm.access r).Stores Finset.univ} {hm : (Finset.univ : Finset r.shape.Idx) = Finset.univ ∨ ∀ a, r.stride a = 1}
    {S : Finset (Idx ((mm.access r).loc (c : Thread nD τ)))} {f : Buf (Elt F) ((mm.access r).loc (c : Thread nD τ))} (P P' : sProp 𝕄)
    (hP : P = ((mm.access r).loc (c : Thread nD τ) ↦[S]{fullShare} f)) (hS : (mm.access r).setOn Finset.univ ⊆ S)
    (hP' : ((mm.access r).loc (c : Thread nD τ) ↦[S]{fullShare} ((mm.access r).write (Elt F) f w Finset.univ)) = P')
    {α : Type} {Q : α → sProp 𝕄} {k : PUnit → Body F α} :
    P ⊢ iprop((P' -∗ runs c (k ⟨⟩) Q) -∗ runs c (.op (.store mm r w Finset.univ hx hm) k) Q) := by
  subst hP hP'
  exact wp_store 𝒱₀ (c : Thread nD τ) none Set.univ hS

/-- A slot read. -/
theorem wp_slotLoad (c : Dev nD) (k : ℕ) (h : PageIn 16 256 128 k) (v : Vec F S1x256x128 .bf16)
    {hl : cM.view.LoadsAt (Rect.unit (s := S16x256x128) ![k, 0, 0] S1x256x128.size h).toLoadRect}
    {α : Type} {Q : α → sProp 𝕄} {kk : (S1x256x128.Idx → Elt F .bf16) → Body F α} :
    slotVal c k v ⊢ iprop((slotVal c k v -∗ runs c (kk v) Q)
      -∗ runs c (.op (.load cM (Rect.unit (s := S16x256x128) ![k, 0, 0] S1x256x128.size h).toLoadRect hl) kk) Q) :=
  wp_peek c (mm := cM) (r := (Rect.unit (s := S16x256x128) ![k, 0, 0] S1x256x128.size h).toLoadRect) (S := pageSet k) (f := fill v) _ v rfl (cSlot_load_set k h) (cSlot_load k h v)

/-- A slot written, after a read whose value goes unused. -/
theorem wp_slotStore (c : Dev nD) (k : ℕ) (h : PageIn 16 256 128 k) (v : Vec F S1x256x128 .bf16)
    {hl : cM.view.LoadsAt (Rect.unit (s := S16x256x128) ![k, 0, 0] S1x256x128.size h).toLoadRect}
    {hx : (cM.access (Rect.unit (s := S16x256x128) ![k, 0, 0] S1x256x128.size h)).Stores Finset.univ}
    {hm : (Finset.univ : Finset (Rect.unit (s := S16x256x128) ![k, 0, 0] S1x256x128.size h).shape.Idx) = Finset.univ
      ∨ ∀ a, (Rect.unit (s := S16x256x128) ![k, 0, 0] S1x256x128.size h).stride a = 1}
    {α : Type} {Q : α → sProp 𝕄} {kk : PUnit → Body F α} :
    slotAny (F := F) c k ⊢ iprop((slotVal c k v -∗ runs c (kk ⟨⟩) Q)
      -∗ runs c (.op (.load cM (Rect.unit (s := S16x256x128) ![k, 0, 0] S1x256x128.size h).toLoadRect hl)
          (fun _ => .op (.store cM (Rect.unit (s := S16x256x128) ![k, 0, 0] S1x256x128.size h) v Finset.univ hx hm) kk)) Q) := by
  unfold slotAny
  iintro ⟨%f, H⟩ Hk
  iapply (wp_peek c (mm := cM) (r := (Rect.unit (s := S16x256x128) ![k, 0, 0] S1x256x128.size h).toLoadRect) (S := pageSet k) (f := f) (slotPts c k f) _ rfl (cSlot_load_set k h) rfl) $$ H
  iintro H
  iapply (wp_poke c (mm := cM) (r := Rect.unit (s := S16x256x128) ![k, 0, 0] S1x256x128.size h) (w := v) (S := pageSet k) (f := f) (slotPts c k f) (slotVal c k v) rfl (cSlot_store_set k h)
    (pointsTo_congr (cSlot_store k h v f))) $$ H
  iexact Hk

/-- A slot of the row buffer read. -/
theorem wp_rsLoad (c : Dev nD) (k : ℕ) (h : PageIn 3 64 256 k) (v : Vec F S64x256 .bf16)
    {hl : rM.view.LoadsAt (Rect.unit (s := S3x64x256) ![k, 0, 0] S1x64x256.size h).toLoadRect}
    {α : Type} {Q : α → sProp 𝕄} {kk : (S1x64x256.Idx → Elt F .bf16) → Body F α} :
    rsVal c k v ⊢ iprop((rsVal c k v -∗ runs c (kk (tileOf v)) Q)
      -∗ runs c (.op (.load rM (Rect.unit (s := S3x64x256) ![k, 0, 0] S1x64x256.size h).toLoadRect hl) kk) Q) :=
  wp_peek c (mm := rM) (r := (Rect.unit (s := S3x64x256) ![k, 0, 0] S1x64x256.size h).toLoadRect) (S := pageSet k) (f := fillPage v) _ (tileOf v) rfl (rSlot_load_set k h) (rSlot_load k h v)

/-- A row block read for nothing, … -/
theorem wp_rowPeek (c : Dev nD) (i : ℕ) {o : Fin 2 → ℕ} (ho : o = ![64 * (shift i c).val, 0]) {h : RowsIn o}
    {hl : pM.view.LoadsAt (Rect.unit (s := S256x256) o S64x256.size h).toLoadRect}
    {α : Type} {Q : α → sProp 𝕄} {p : Body F α} :
    rowAny (F := F) c i ⊢ iprop((rowAny (F := F) c i -∗ runs c p Q)
      -∗ runs c (.op (.load pM (Rect.unit (s := S256x256) o S64x256.size h).toLoadRect hl) (fun _ => p)) Q) := by
  unfold rowAny
  iintro ⟨%f, H⟩ Hk
  iapply (wp_peek c (mm := pM) (r := (Rect.unit (s := S256x256) o S64x256.size h).toLoadRect) (S := rowSet (shift i c).val) (f := f) (rowPts c i f) _ rfl (pRows_load_set _ o ho h) rfl) $$ H
  iintro H
  iapply Hk
  iexists f; iexact H

/-- … and written. -/
theorem wp_rowStore (c : Dev nD) (i : ℕ) {o : Fin 2 → ℕ} (ho : o = ![64 * (shift i c).val, 0]) {h : RowsIn o} (v : Vec F S64x256 .bf16)
    {hx : (pM.access (Rect.unit (s := S256x256) o S64x256.size h)).Stores Finset.univ}
    {hm : (Finset.univ : Finset (Rect.unit (s := S256x256) o S64x256.size h).shape.Idx) = Finset.univ
      ∨ ∀ a, (Rect.unit (s := S256x256) o S64x256.size h).stride a = 1}
    {α : Type} {Q : α → sProp 𝕄} {kk : PUnit → Body F α} :
    rowAny (F := F) c i ⊢ iprop((rowVal c i v -∗ runs c (kk ⟨⟩) Q)
      -∗ runs c (.op (.store pM (Rect.unit (s := S256x256) o S64x256.size h) v Finset.univ hx hm) kk) Q) := by
  unfold rowAny
  iintro ⟨%f, H⟩ Hk
  iapply (wp_poke c (mm := pM) (r := Rect.unit (s := S256x256) o S64x256.size h) (w := v) (S := rowSet (shift i c).val) (f := f) (rowPts c i f) (rowVal c i v) rfl (pRows_store_set _ o ho h)
    (pointsTo_congr (pRows_store _ o ho h v f))) $$ H
  iexact Hk

/-- A row block of the activations read. -/
theorem wp_hRow (c : Dev nD) (i : ℕ) {o : Fin 2 → ℕ} (ho : o = ![64 * (shift i c).val, 0]) {h : HRowsIn o}
    {hl : hM.view.LoadsAt (Rect.unit (s := S256x512) o S64x512.size h).toLoadRect}
    {α : Type} {Q : α → sProp 𝕄} {kk : (S64x512.Idx → Elt F .bf16) → Body F α} :
    bufPts c cc0_scratch9 (hAt m c) ⊢ iprop((bufPts c cc0_scratch9 (hAt m c) -∗ runs c (kk (hRow m i c)) Q)
      -∗ runs c (.op (.load hM (Rect.unit (s := S256x512) o S64x512.size h).toLoadRect hl) kk) Q) :=
  wp_peek c (mm := hM) (r := (Rect.unit (s := S256x512) o S64x512.size h).toLoadRect) (S := Finset.univ) (f := hAt m c) _ (hRow m i c) rfl (Finset.subset_univ _) (hRow_eq m i c o ho h)

theorem runs_ret (c : Dev nD) {α : Type} (a : α) (Q : α → sProp 𝕄) : Q a ⊢ runs (F := F) c (.ret a) Q := by
  unfold runs; rw [wp_ret]; exact fupd_intro

theorem runs_bind (c : Dev nD) {α β : Type} (p : Body F α) (k : α → Body F β) (Q : β → sProp 𝕄) :
    runs c p (fun a => runs c (k a) Q) ⊢ runs c (p >>= k) Q := by
  unfold runs; rw [wp_bind]

theorem off_zero : (![0, 0] : Fin 2 → ℕ) = fun _ => 0 := funext fun a => by fin_cases a <;> rfl

/-! ## The meeting at the barrier -/

/-- What a device brings to the barrier: its duties to both partners' cells, and its own cell's seat and credit. -/
def meetKit (c : Dev nD) : sProp 𝕄 :=
  iprop(dutyTok ER (barCell (pA c)) 0 true ∗ dutyTok ER (barCell (pB c)) 0 false ∗ atPos ER (barCell c) 0 ∅ 0
    ∗ cred (tallyAt (barCell c) () 2))

/-- The slots a device's partners write, … -/
def ownOdd (c : Dev nD) : sProp 𝕄 :=
  iprop(slotAny (F := F) c 1 ∗ slotAny (F := F) c 3 ∗ slotAny (F := F) c 5 ∗ slotAny (F := F) c 7 ∗ slotAny (F := F) c 9
    ∗ slotAny (F := F) c 11 ∗ slotAny (F := F) c 13 ∗ slotAny (F := F) c 15 ∗ rsAny (F := F) c 0 ∗ rsAny (F := F) c 1 ∗ rsAny (F := F) c 2)
/-- … and the slots of others that it is handed. -/
def gotOdd (c : Dev nD) : sProp 𝕄 :=
  iprop(slotAny (F := F) (pA c) 1 ∗ slotAny (F := F) (pB c) 3 ∗ slotAny (F := F) (pB c) 5 ∗ slotAny (F := F) (pA c) 7 ∗ slotAny (F := F) (pA c) 9
    ∗ slotAny (F := F) (pB c) 11 ∗ slotAny (F := F) (pB c) 13 ∗ slotAny (F := F) (pA c) 15
    ∗ rsAny (F := F) (shift 3 c) 0 ∗ rsAny (F := F) (pB c) 1 ∗ rsAny (F := F) (shift 1 c) 2)

omit [FloatOps F] in
theorem give (c : Dev nD) : ownOdd (F := F) c ⊢ iprop(barPay (F := F) (pA c) true ∗ barPay (F := F) (pB c) false) := by
  unfold ownOdd barPay
  rw [if_pos rfl, if_neg (by decide), pA_pA, pB_pB]
  have hj : (jA (pA c) = 0 ∧ jB (pB c) = 2) ∨ (jA (pA c) = 2 ∧ jB (pB c) = 0) := by revert c; decide
  rcases hj with ⟨h1, h2⟩ | ⟨h1, h2⟩ <;> rw [h1, h2] <;>
  · iintro ⟨h1, h3, h5, h7, h9, h11, h13, h15, r0, r1, r2⟩
    iframe

omit [FloatOps F] in
theorem take (c : Dev nD) : iprop(barPay (F := F) c false ∗ barPay (F := F) c true) ⊢ gotOdd (F := F) c := by
  unfold gotOdd barPay
  rw [if_pos rfl, if_neg (by decide)]
  have hj : (jA c = 2 ∧ pA c = shift 1 c ∧ jB c = 0 ∧ pB c = shift 3 c) ∨ (jA c = 0 ∧ pA c = shift 3 c ∧ jB c = 2 ∧ pB c = shift 1 c) := by
    revert c; decide
  rcases hj with ⟨h1, h2, h3, h4⟩ | ⟨h1, h2, h3, h4⟩ <;> rw [h1, h2, h3, h4] <;>
  · iintro ⟨⟨h3, h5, h11, h13, r0, r1⟩, h1, h7, h9, h15, r2⟩
    iframe

/-! ## What each arrival hands over -/

theorem pay_first (c : Dev nD) : iprop(slotVal (pA c) 1 (sv m 0 c) ∗ rsAny (F := F) (pB c) 1) ⊢ recvPay m (rcvOf 0) (pA c) := by
  show _ ⊢ iprop(slotVal (pA c) 1 (sv m 0 (pA (pA c))) ∗ rsAny (F := F) (shift 2 (pA c)) 1)
  rw [pA_pA, shift2_pA]

theorem pay_tile (k : ℕ) (h0 : 0 < k) (hk : k < 8) (c d : Dev nD) (hd : d = tgt k c) (kd : ℕ) (hkd : kd = 2 * k + 1) :
    iprop(slotVal d kd (sv m k c) ∗ emp) ⊢ recvPay m (rcvOf k) d := by
  subst hd hkd
  have e : rcvOf k = k := if_pos hk
  unfold recvPay
  rw [e, if_neg (by omega), if_pos hk, tgt_tgt k hk]
  iintro ⟨H, -⟩
  iexact H

theorem shift_back : ∀ k, 8 ≤ k → k < 11 → ∀ c : Dev nD, shift (18 - k - 7) (shift (k - 7) c) = c := by
  intro k h1 h2
  interval_cases k <;> decide

theorem pay_rows (k : ℕ) (h8 : 8 ≤ k) (hk : k < 11) (c d : Dev nD) (hd : d = tgt k c) (j : ℕ) (hj : j = 10 - k) :
    rsVal d j (rv m (k - 7) c) ⊢ recvPay m (rcvOf k) d := by
  subst hd hj
  have e : rcvOf k = 18 - k := if_neg (by omega)
  have e' : tgt k c = shift (k - 7) c := if_neg (by omega)
  unfold recvPay
  rw [e, e', if_neg (by omega), if_neg (by omega), shift_back k h8 hk, show 18 - k - 8 = 10 - k from by omega, show 11 - (18 - k) = k - 7 from by omega]

/-! ## Where the row blocks start -/

theorem off1_eq (i : ℕ) (c : Dev nD) (r : Fin 3) (hr : i = r.val + 1) : k0_off1 c (BitVec.ofNat 32 (1 + r.val)) = ![64 * (shift i c).val, 0] := by
  subst hr; exact k0_off1_eq c r
theorem off2_eq (i : ℕ) (c : Dev nD) (r : Fin 3) (hr : i = r.val + 1) : k0_off2 c (BitVec.ofNat 32 (1 + r.val)) = ![64 * (shift i c).val, 0] := by
  subst hr; exact k0_off2_eq c r
theorem off3_eq (i : ℕ) (c : Dev nD) (r : Fin 3) (hr : i = r.val + 1) : k0_off3 c (BitVec.ofNat 32 (1 + r.val)) = ![64 * (shift i c).val, 0] := by
  subst hr; exact k0_off3_eq c r
theorem off4_eq (c : Dev nD) : k0_off4 c = ![64 * (shift 0 c).val, 0] := by
  rw [k0_off4_eq, show shift 0 c = c from by revert c; decide]

omit [FloatOps F] in
/-- A load from one of two buffers held together. -/
theorem wp_peekFst [FloatOps F] (c : Dev nD) {cs : CoreSpace} {s : Shape} {e : EltTy} {mm : Memref sig .tc cs s e} {r : LoadRect s} {hl : mm.view.LoadsAt r}
    {f : Buf (Elt F) (mm.view.loc (c : Thread nD τ))} (P R : sProp 𝕄) (hP : P = iprop((mm.view.loc (c : Thread nD τ) ↦{fullShare} f) ∗ R))
    (v : r.shape.Idx → Elt F e) (hv : mm.view.readAt (Elt F) r f = v)
    {α : Type} {Q : α → sProp 𝕄} {k : (r.shape.Idx → Elt F e) → Body F α} :
    P ⊢ iprop((P -∗ runs c (k v) Q) -∗ runs c (.op (.load mm r hl) k) Q) := by
  subst hP
  iintro ⟨H, HR⟩ Hk
  iapply (wp_peek c (mm := mm) (r := r) (S := Finset.univ) (f := f) _ v rfl (Finset.subset_univ _) hv) $$ H
  iintro H
  iapply Hk
  iframe

/-- The wait that ends a tile's transfer, at either end. -/
theorem wp_doneTile (c : Dev nD) (q : Fin 31) (hc : creditN q.val = tileN) (O : CellTallies nD τ sig Unit)
    (hmay : (levAts L lv : sProp 𝕄) ⊢ MayWait (c : Thread nD τ) (.dma q) () O)
    (P : sProp 𝕄) (hP : dmaPay m q.val c ⊢ P)
    {sp' : Space} {s' : Shape} {e' : EltTy} {sem : DmaSem sig} (hs : sem = q)
    {src : Memref sig .tc sp' s' e'} {k : ℕ} {hk : PageIn 16 256 128 k} {h₁ : src.view.WordExact} {h₂ : (cSlot k hk).view.WordExact}
    {α : Type} {Q : α → sProp 𝕄} {kk : PUnit → Body F α}
    (hq : q ≠ 0 ∧ q.val < 30 := by decide) :
    iprop(env m K ∗ flight c q ∗ owesE c O)
      ⊢ iprop(((owesE c O ∗ P ∗ shut c q) -∗ runs c (kk ⟨⟩) Q)
          -∗ runs c (.op (.waitDma2 sem src (cSlot k hk) h₁ h₂) kk) Q) :=
  wp_done m K c q O hmay P hP hs (dst := cSlot k hk) (h₁ := h₁) (h₂ := h₂) (by rw [hc]; rfl) hq

/-- The wait that ends a row block's arrival. -/
theorem wp_doneRs (c : Dev nD) (q : Fin 31) (hc : creditN q.val = rowN) (O : CellTallies nD τ sig Unit)
    (hmay : (levAts L lv : sProp 𝕄) ⊢ MayWait (c : Thread nD τ) (.dma q) () O)
    (P : sProp 𝕄) (hP : dmaPay m q.val c ⊢ P)
    {sp' : Space} {s' : Shape} {e' : EltTy} {sem : DmaSem sig} (hs : sem = q)
    {src : Memref sig .tc sp' s' e'} {k : ℕ} {hk : PageIn 3 64 256 k} {h₁ : src.view.WordExact} {h₂ : (rSlot k hk).view.WordExact}
    {α : Type} {Q : α → sProp 𝕄} {kk : PUnit → Body F α}
    (hq : q ≠ 0 ∧ q.val < 30 := by decide) :
    iprop(env m K ∗ flight c q ∗ owesE c O)
      ⊢ iprop(((owesE c O ∗ P ∗ shut c q) -∗ runs c (kk ⟨⟩) Q)
          -∗ runs c (.op (.waitDma2 sem src (rSlot k hk) h₁ h₂) kk) Q) :=
  wp_done m K c q O hmay P hP hs (dst := rSlot k hk) (h₁ := h₁) (h₂ := h₂) (by rw [hc]; rfl) hq

/-- The wait that ends a row block's departure. -/
theorem wp_doneRow (c : Dev nD) (q : Fin 31) (hc : creditN q.val = rowN) (O : CellTallies nD τ sig Unit)
    (hmay : (levAts L lv : sProp 𝕄) ⊢ MayWait (c : Thread nD τ) (.dma q) () O)
    (P : sProp 𝕄) (hP : dmaPay m q.val c ⊢ P)
    {sp' : Space} {s' : Shape} {e' : EltTy} {sem : DmaSem sig} (hs : sem = q)
    {src : Memref sig .tc sp' s' e'} {o : Fin 2 → ℕ} {ho : RowsIn o} {h₁ : src.view.WordExact} {h₂ : (pRows o ho).view.WordExact}
    {α : Type} {Q : α → sProp 𝕄} {kk : PUnit → Body F α}
    (hq : q ≠ 0 ∧ q.val < 30 := by decide) :
    iprop(env m K ∗ flight c q ∗ owesE c O)
      ⊢ iprop(((owesE c O ∗ P ∗ shut c q) -∗ runs c (kk ⟨⟩) Q)
          -∗ runs c (.op (.waitDma2 sem src (pRows o ho) h₁ h₂) kk) Q) :=
  wp_done m K c q O hmay P hP hs (dst := pRows o ho) (h₁ := h₁) (h₂ := h₂) (by rw [hc]; rfl) hq

end Cert.Tower

end
-- ==== Proof.Parts.lean ====
/-
# The parts of the body as the kernel is called

Each part of the body on the arguments the launch gives it, and the staging buffer it is called with.
-/
module

public import proofs.«01_k».proof.Proof.Steps

@[expose] public section

noncomputable section

namespace Cert.Tower

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Parts
variable (out : Memref sig .tc .vmem S64x256 .f32) (hout : out.IsWhole)

abbrev prt1 : Body F (Σ' (d0 : Dev nD) (v2 : BitVec 32) (v3 : BitVec 32), BitVec 32) :=
  k0_part1 (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _)
    out hout
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _)
    cc0_scratch11 cc0_scratch12 cc0_scratch13
abbrev prt2 (d0 : Dev nD) (v3 : BitVec 32) : Body F (Σ' (v41 : FVec F S256x128 .f32) (v43 : FVec F S256x128 .f32), FVec F S256x128 .bf16) :=
  k0_part2 (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _)
    out hout
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _)
    cc0_scratch11 cc0_scratch12 cc0_scratch13 d0 v3
abbrev prt3 (d0 : Dev nD) (v3 v4 : BitVec 32) (v58 : FVec F S256x128 .bf16) : Body F (FVec F S256x512 .bf16) :=
  k0_part3 (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _)
    out hout
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _)
    cc0_scratch11 cc0_scratch12 cc0_scratch13 d0 v3 v4 v58
abbrev prt4 (d0 : Dev nD) (v4 : BitVec 32) (v41 : FVec F S256x128 .f32) : Body F (FVec F S256x128 .f32) :=
  k0_part4 (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _)
    out hout
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _)
    cc0_scratch11 cc0_scratch12 cc0_scratch13 d0 v4 v41
abbrev prt5 (d0 : Dev nD) (v3 v4 : BitVec 32) (v43 : FVec F S256x128 .f32) : Body F (FVec F S256x128 .f32) :=
  k0_part5 (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _)
    out hout
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _)
    cc0_scratch11 cc0_scratch12 cc0_scratch13 d0 v3 v4 v43
abbrev prt6 (v4 : BitVec 32) (v93 : FVec F S256x128 .f32) : Body F (Σ' (v143 : FVec F S512x256 .bf16), FVec F S256x128 .f32) :=
  k0_part6 (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _)
    out hout
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _)
    cc0_scratch11 cc0_scratch12 cc0_scratch13 v4 v93
abbrev prt7 (v3 : BitVec 32) (v75 : FVec F S256x512 .bf16) (v125 : FVec F S256x128 .f32) (v143 : FVec F S512x256 .bf16) (v161 : FVec F S256x128 .f32) : Body F (Σ' (v191 : FVec F S256x128 .f32), FVec F S256x128 .f32) :=
  k0_part7 (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _)
    out hout
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _)
    cc0_scratch11 cc0_scratch12 cc0_scratch13 v3 v75 v125 v143 v161
abbrev prt8 (d0 : Dev nD) (v3 v4 : BitVec 32) (v193 : FVec F S256x128 .f32) : Body F (FVec F S256x512 .bf16) :=
  k0_part8 (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _)
    out hout
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _)
    cc0_scratch11 cc0_scratch12 cc0_scratch13 d0 v3 v4 v193
abbrev prt9 (v3 v4 : BitVec 32) (v191 : FVec F S256x128 .f32) : Body F (FVec F S256x128 .f32) :=
  k0_part9 (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _)
    out hout
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _)
    cc0_scratch11 cc0_scratch12 cc0_scratch13 v3 v4 v191
abbrev prt10 (d0 : Dev nD) (v4 : BitVec 32) (v193 : FVec F S256x128 .f32) : Body F (FVec F S256x128 .f32) :=
  k0_part10 (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _)
    out hout
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _)
    cc0_scratch11 cc0_scratch12 cc0_scratch13 d0 v4 v193
abbrev prt11 (d0 : Dev nD) (v3 v4 : BitVec 32) : Body F (FVec F S512x256 .bf16) :=
  k0_part11 (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _)
    out hout
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _)
    cc0_scratch11 cc0_scratch12 cc0_scratch13 d0 v3 v4
abbrev prt12 (v3 : BitVec 32) (v225 : FVec F S256x512 .bf16) (v243 v275 : FVec F S256x128 .f32) : Body F (Σ' (v336 : FVec F S256x512 .f32), FVec F S256x512 .f32) :=
  k0_part12 (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _)
    out hout
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _)
    cc0_scratch11 cc0_scratch12 cc0_scratch13 v3 v225 v243 v275
abbrev prt13 (d0 : Dev nD) (v2 : BitVec 32) (v293 : FVec F S512x256 .bf16) (v336 v337 : FVec F S256x512 .f32) : Body F (Σ' (v344 : BitVec 32) (v364 : BitVec 32), FVec F S64x256 .bf16) :=
  k0_part13 (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _)
    out hout
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _)
    cc0_scratch11 cc0_scratch12 cc0_scratch13 d0 v2 v293 v336 v337
abbrev prt14 (d0 : Dev nD) (v2 : BitVec 32) (v293 : FVec F S512x256 .bf16) (v364 : BitVec 32) (v369 : FVec F S64x256 .bf16) : Body F (BitVec 32) :=
  k0_part14 (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _)
    out hout
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _)
    cc0_scratch11 cc0_scratch12 cc0_scratch13 d0 v2 v293 v364 v369
abbrev prt15 (d0 : Dev nD) (v293 : FVec F S512x256 .bf16) (v344 v364 : BitVec 32) : Body F (FVec F S64x256 .f32) :=
  k0_part15 (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _)
    out hout
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _)
    cc0_scratch11 cc0_scratch12 cc0_scratch13 d0 v293 v344 v364
abbrev prt16 : Body F (FVec F S64x256 .f32) :=
  k0_part16 (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _)
    out hout
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _)
    cc0_scratch11 cc0_scratch12 cc0_scratch13

end Parts

end Cert.Tower

end
-- ==== Proof.LayerOne.lean ====
/-
# The first layer, part by part

Each part of the body, run from what it uses to what it leaves.
-/
module

public import proofs.«01_k».proof.Proof.Parts

@[expose] public section

noncomputable section

namespace Cert.Tower

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 31 → ℕ)

section Parts
variable (out : Memref sig .tc .vmem S64x256 .f32) (hout : out.IsWhole) (c : Dev nD)

omit [FloatOps F] in
/-- A whole buffer that was copied into. -/
theorem fetched (b : Ref sig .tc) (fd w : b.ty.Contents (Elt F)) :
    ((Memref.whole b).view.loc (c : Thread nD τ) ↦[(Memref.whole b).view.set]{fullShare} ((Memref.whole b).view.write (Elt F) fd w Finset.univ) : sProp 𝕄)
      = bufPts c b w := by
  rw [show (Memref.whole b).view.write (Elt F) fd w Finset.univ = w from View.write_whole_univ b fd w]
  exact (buf_view c b w).symm

omit [FloatOps F] in
theorem bufAny_view (b : Ref sig .tc) :
    bufAny (F := F) c b = iprop(∃ f : Buf (Elt F) ((Memref.whole b).view.loc (c : Thread nD τ)), (Memref.whole b).view.loc (c : Thread nD τ) ↦[(Memref.whole b).view.set]{fullShare} f) := by
  unfold bufAny
  exact congrArg _ (funext fun f => buf_view c b f)

set_option maxHeartbeats 400000 in
/-- The arguments' copies are started, the partners met, and the activations waited for. -/
theorem part1_run (Kt : _ → sProp 𝕄) :
    iprop(env m K ∗ owesE c (O₀ c) ∗ meetKit (F := F) c ∗ ownOdd (F := F) c
        ∗ (fetchKit (F := F) c 0 ∗ fetchKit (F := F) c 1 ∗ fetchKit (F := F) c 2 ∗ fetchKit (F := F) c 3 ∗ fetchKit (F := F) c 4 ∗ fetchKit (F := F) c 5 ∗ fetchKit (F := F) c 6)
        ∗ (bufPts c main_arg0 (xAt m c) ∗ bufPts c main_arg1 (wi0 m c) ∗ bufPts c main_arg4 (wo0 m c) ∗ bufPts c main_arg2 (wi1 m c)
          ∗ bufPts c main_arg5 (wo1 m c) ∗ bufPts c main_arg3 (wi2 m c) ∗ bufPts c main_arg6 (wo2 m c))
        ∗ (bufAny (F := F) c cc0_scratch0 ∗ bufAny (F := F) c cc0_scratch1 ∗ bufAny (F := F) c cc0_scratch2 ∗ bufAny (F := F) c cc0_scratch3
          ∗ bufAny (F := F) c cc0_scratch4 ∗ bufAny (F := F) c cc0_scratch5 ∗ bufAny (F := F) c cc0_scratch6))
      ⊢ iprop((∀ v2 v3 v4, (owesE c (owed c 11) ∗ gotOdd (F := F) c ∗ semVal (barCell c) 0 ∗ loadPay m 0 c ∗ shut c (lq 0)
            ∗ flight c (lq 1) ∗ flight c (lq 2) ∗ flight c (lq 3) ∗ flight c (lq 4) ∗ flight c (lq 5) ∗ flight c (lq 6)) -∗ Kt ⟨c, v2, v3, v4⟩)
          -∗ runs c (prt1 (F := F) out hout) Kt) := by
  unfold prt1
  simp only [k0_part1_eq_skeleton]; unfold k0_part1_skel
  simp only [semSignalWord, semWaitWord, Prog.lift, Prog.bind_op, Prog.bind_ret, Prog.pure_eq_ret, wp_deviceId]
  iintro ⟨#He, HO, Hmeet, Hodd, ⟨f0, f1, f2, f3, f4, f5, f6⟩, ⟨a0, a1, a4, a2, a5, a3, a6⟩, ⟨b0, b1, b2, b3, b4, b5, b6⟩⟩ Hk
  iapply (wp_fetch m K c 0 (by decide) rfl (src := Memref.whole main_arg0) (dst := Memref.whole cc0_scratch0) (xAt m c) (bufPts c main_arg0 (xAt m c)) (bufAny c cc0_scratch0) (buf_view c main_arg0 _) (bufAny_view c cc0_scratch0) rfl
    (fun fd => Entails.of_eq (congrArg (fun g => iprop(g ∗ bufPts c main_arg0 (xAt m c))) (fetched c cc0_scratch0 fd (xAt m c))))) $$ [f0 a0 b0]
  · isplitr; · iexact He
    iframe
  iintro f0
  iapply (wp_fetch m K c 1 (by decide) rfl (src := Memref.whole main_arg1) (dst := Memref.whole cc0_scratch1) (wi0 m c) (bufPts c main_arg1 (wi0 m c)) (bufAny c cc0_scratch1) (buf_view c main_arg1 _) (bufAny_view c cc0_scratch1) rfl
    (fun fd => Entails.of_eq (congrArg (fun g => iprop(g ∗ bufPts c main_arg1 (wi0 m c))) (fetched c cc0_scratch1 fd (wi0 m c))))) $$ [f1 a1 b1]
  · isplitr; · iexact He
    iframe
  iintro f1
  iapply (wp_fetch m K c 2 (by decide) rfl (src := Memref.whole main_arg4) (dst := Memref.whole cc0_scratch2) (wo0 m c) (bufPts c main_arg4 (wo0 m c)) (bufAny c cc0_scratch2) (buf_view c main_arg4 _) (bufAny_view c cc0_scratch2) rfl
    (fun fd => Entails.of_eq (congrArg (fun g => iprop(g ∗ bufPts c main_arg4 (wo0 m c))) (fetched c cc0_scratch2 fd (wo0 m c))))) $$ [f2 a4 b2]
  · isplitr; · iexact He
    iframe
  iintro f2
  iapply (wp_fetch m K c 3 (by decide) rfl (src := Memref.whole main_arg2) (dst := Memref.whole cc0_scratch3) (wi1 m c) (bufPts c main_arg2 (wi1 m c)) (bufAny c cc0_scratch3) (buf_view c main_arg2 _) (bufAny_view c cc0_scratch3) rfl
    (fun fd => Entails.of_eq (congrArg (fun g => iprop(g ∗ bufPts c main_arg2 (wi1 m c))) (fetched c cc0_scratch3 fd (wi1 m c))))) $$ [f3 a2 b3]
  · isplitr; · iexact He
    iframe
  iintro f3
  iapply (wp_fetch m K c 4 (by decide) rfl (src := Memref.whole main_arg5) (dst := Memref.whole cc0_scratch4) (wo1 m c) (bufPts c main_arg5 (wo1 m c)) (bufAny c cc0_scratch4) (buf_view c main_arg5 _) (bufAny_view c cc0_scratch4) rfl
    (fun fd => Entails.of_eq (congrArg (fun g => iprop(g ∗ bufPts c main_arg5 (wo1 m c))) (fetched c cc0_scratch4 fd (wo1 m c))))) $$ [f4 a5 b4]
  · isplitr; · iexact He
    iframe
  iintro f4
  iapply (wp_fetch m K c 5 (by decide) rfl (src := Memref.whole main_arg3) (dst := Memref.whole cc0_scratch5) (wi2 m c) (bufPts c main_arg3 (wi2 m c)) (bufAny c cc0_scratch5) (buf_view c main_arg3 _) (bufAny_view c cc0_scratch5) rfl
    (fun fd => Entails.of_eq (congrArg (fun g => iprop(g ∗ bufPts c main_arg3 (wi2 m c))) (fetched c cc0_scratch5 fd (wi2 m c))))) $$ [f5 a3 b5]
  · isplitr; · iexact He
    iframe
  iintro f5
  iapply (wp_fetch m K c 6 (by decide) rfl (src := Memref.whole main_arg6) (dst := Memref.whole cc0_scratch6) (wo2 m c) (bufPts c main_arg6 (wo2 m c)) (bufAny c cc0_scratch6) (buf_view c main_arg6 _) (bufAny_view c cc0_scratch6) rfl
    (fun fd => Entails.of_eq (congrArg (fun g => iprop(g ∗ bufPts c main_arg6 (wo2 m c))) (fetched c cc0_scratch6 fd (wo2 m c))))) $$ [f6 a6 b6]
  · isplitr; · iexact He
    iframe
  iintro f6
  -- the partners
  unfold meetKit owesE
  icases Hmeet with ⟨tA, tB, Hat, Hcr⟩
  icases HO with ⟨%W, HO⟩
  ihave Hg := (give c) $$ Hodd
  icases Hg with ⟨gA, gB⟩
  ihave #He' : iprop(recs m K ∗ levAts L lv) $$ []
  · unfold env; iexact He
  icases He' with ⟨#HR, #Hlev⟩
  ihave #Hi := (recs_bar m K (pA c)) $$ HR
  icases Hi with ⟨#HiA, #HrA⟩
  ihave #Hi := (recs_bar m K (pB c)) $$ HR
  icases Hi with ⟨#HiB, #HrB⟩
  ihave #Hi := (recs_bar m K c) $$ HR
  icases Hi with ⟨#Hi0, #Hr0⟩
  simp only [dev1 c, dev2 c]
  iapply (Rounds.wp_signal 𝒱₀ ER (Rd m) (c : Thread nD τ) none (dst := (pA c : Thread nD τ)) (κ := K (pA c, 0))
      (d := true) (by rw [duties_bar]; exact Finset.mem_univ _) ((amount_bar m (pA c) true).trans (by decide)) () (O₁ c) rfl) $$ [HO tA gA]
  · isplitr; · iexact HiA
    isplitl [HO]; · iexact HO
    isplitl [tA]; · iexact tA
    isplitl [gA]; · rw [payload_bar]; iexact gA
    iexact HrA
  iintro HO
  iapply (Rounds.wp_signal 𝒱₀ ER (Rd m) (c : Thread nD τ) none (dst := (pB c : Thread nD τ)) (κ := K (pB c, 0))
      (d := false) (by rw [duties_bar]; exact Finset.mem_univ _) ((amount_bar m (pB c) false).trans (by decide)) () (owed c 11) rfl) $$ [HO tB gB]
  · isplitr; · iexact HiB
    isplitl [HO]; · iexact HO
    isplitl [tB]; · iexact tB
    isplitl [gB]; · rw [payload_bar]; iexact gB
    iexact HrB
  iintro HO
  iapply (Rounds.wp_wait_rest_token 𝒱₀ ER (Rd m) (c : Thread nD τ) none (κ := K (c, 0))
      (wpE_semWait_eq 𝒱₀ (c : Thread nD τ) none Set.univ) (Set.mem_univ _) () (O := owed c 11) (W := W) (R := 0) (m := 0) (T := ∅)
      (by rw [expect_bar]; decide)) $$ [Hcr HO Hat]
  · isplitr; · iexact Hi0
    isplitl [Hcr]; · iexact Hcr
    isplitl [HO]; · iexact HO
    isplitr; · iapply (mayWait_owed c 11 (.reg barS) (by decide)); iexact Hlev
    iexact Hat
  iintro ⟨HO, Hat, -, Hpay⟩
  ihave Hp := (Entails.of_eq (rest_bar m c)) $$ Hpay
  ihave Hgot := (take c) $$ Hp
  imod (Rounds.cell_close ER (Rd m) (Set.mem_univ (K (c, 0))) (fun h => h) (R := 0 + 1) (duties_later m (barCell c))) $$ [Hat] with Hz
  · isplitr; · iexact Hi0
    iexact Hat
  iapply (wp_done m K c (lq 0) (owed c 11) (mayWait_owed c 11 _ (by decide)) (loadPay m 0 c) (BI.Entails.refl _) rfl rfl) $$ [HO f0]
  · isplitr; · iexact He
    unfold owesE
    iframe
    iexists _
    iexact HO
  unfold owesE
  iintro ⟨HO, HP, Hs⟩
  iapply (runs_ret c)
  iapply Hk
  iframe

set_option maxHeartbeats 2000000 in
/-- The first layer's partial is formed and its left half sent to the first partner. -/
theorem part2_run (v3 : BitVec 32) (Kt : _ → sProp 𝕄) :
    iprop(env m K ∗ owesE c (owed c 11) ∗ loadPay m 0 c ∗ flight c (lq 1) ∗ flight c (lq 2) ∗ slotAny (F := F) c 0 ∗ slotAny (F := F) (pA c) 1
        ∗ rsAny (F := F) (pB c) 1 ∗ sendKit (F := F) c 0)
      ⊢ iprop(((owesE c (owed c 10) ∗ loadPay m 0 c ∗ loadPay m 1 c ∗ loadPay m 2 c ∗ shut c (lq 1) ∗ shut c (lq 2) ∗ flight c (sq 0))
            -∗ Kt ⟨l0 m c, r0 m c, k0_pay7 (xAt m c) (wi0 m c) (wo0 m c)⟩)
          -∗ runs c (prt2 (F := F) out hout c v3) Kt) := by
  unfold prt2
  simp only [k0_part2_eq_skeleton]; unfold k0_part2_skel
  simp only [Prog.lift, Prog.bind_op, Prog.bind_ret, Prog.pure_eq_ret]
  iintro ⟨#He, HO, a0, f1, f2, s, d, r, t⟩ Hk
  iapply (wp_peekFst c (mm := Memref.whole cc0_scratch0) (f := xAt m c) (loadPay m 0 c) (bufPts c main_arg0 (xAt m c)) rfl (xAt m c)
    (Memref.readAt_unit_zero (Elt F) cc0_scratch0 off_zero _ _)) $$ a0
  iintro a0
  iapply (wp_done m K c (lq 1) (owed c 11) (mayWait_owed c 11 _ (by decide)) (loadPay m 1 c) (BI.Entails.refl _) rfl (dst := Memref.whole cc0_scratch1) rfl) $$ [HO f1]
  · isplitr; · iexact He
    iframe
  iintro ⟨HO, a1, z1⟩
  iapply (wp_peekFst c (mm := Memref.whole cc0_scratch1) (f := wi0 m c) (loadPay m 1 c) (bufPts c main_arg1 (wi0 m c)) rfl (wi0 m c)
    (Memref.readAt_unit_zero (Elt F) cc0_scratch1 off_zero _ _)) $$ a1
  iintro a1
  iapply (wp_done m K c (lq 2) (owed c 11) (mayWait_owed c 11 _ (by decide)) (loadPay m 2 c) (BI.Entails.refl _) rfl (dst := Memref.whole cc0_scratch2) rfl) $$ [HO f2]
  · isplitr; · iexact He
    iframe
  iintro ⟨HO, a2, z2⟩
  iapply (wp_peekFst c (mm := Memref.whole cc0_scratch2) (f := wo0 m c) (loadPay m 2 c) (bufPts c main_arg4 (wo0 m c)) rfl (wo0 m c)
    (Memref.readAt_unit_zero (Elt F) cc0_scratch2 off_zero _ _)) $$ a2
  iintro a2
  iapply (wp_slotStore c 0 _ (sv m 0 c)) $$ s
  iintro s
  iapply (wp_sendTile m K c 0 (by decide) 10 rfl rfl (pA c) rfl (dev3 c) rfl rfl (rsAny (pB c) 1) (pay_first m c)) $$ [HO t s d r]
  · isplitr; · iexact He
    iframe
  iintro ⟨HO, f⟩
  iapply (runs_ret c (⟨l0 m c, r0 m c, k0_pay7 (xAt m c) (wi0 m c) (wo0 m c)⟩ : Σ' (v41 : FVec F S256x128 .f32) (v43 : FVec F S256x128 .f32), FVec F S256x128 .bf16))
  iapply Hk
  iframe

set_option maxHeartbeats 2000000 in
/-- Its right half is sent to the second partner. -/
theorem part3_run (v3 v4 : BitVec 32) (Kt : _ → sProp 𝕄) :
    iprop(env m K ∗ owesE c (owed c 10) ∗ flight c (lq 3) ∗ slotAny (F := F) c 2 ∗ slotAny (F := F) (pB c) 3 ∗ sendKit (F := F) c 1 ∗ flight c (sq 0))
      ⊢ iprop(((owesE c (owed c 9) ∗ loadPay m 3 c ∗ shut c (lq 3) ∗ flight c (sq 1) ∗ slotVal c 0 (sv m 0 c) ∗ shut c (sq 0))
            -∗ Kt (k0_pay9 (wi1 m c)))
          -∗ runs c (prt3 (F := F) out hout c v3 v4 (k0_pay7 (xAt m c) (wi0 m c) (wo0 m c))) Kt) := by
  unfold prt3
  simp only [k0_part3_eq_skeleton]; unfold k0_part3_skel
  simp only [Prog.lift, Prog.bind_op, Prog.bind_ret, Prog.pure_eq_ret]
  iintro ⟨#He, HO, f3, s, d, t, g0⟩ Hk
  iapply (wp_slotStore c 2 _ (sv m 1 c)) $$ s
  iintro s
  iapply (wp_sendTile m K c 1 (by decide) 9 rfl rfl (pB c) rfl (dev4 c) rfl rfl iprop(emp) (pay_tile m 1 (by decide) (by decide) c (pB c) rfl 3 rfl)) $$ [HO t s d]
  · isplitr; · iexact He
    iframe
  iintro ⟨HO, f⟩
  iapply (wp_done m K c (lq 3) (owed c 9) (mayWait_owed c 9 _ (by decide)) (loadPay m 3 c) (BI.Entails.refl _) rfl (dst := Memref.whole cc0_scratch3) rfl) $$ [HO f3]
  · isplitr; · iexact He
    iframe
  iintro ⟨HO, a3, z3⟩
  iapply (wp_peekFst c (mm := Memref.whole cc0_scratch3) (f := wi1 m c) (loadPay m 3 c) (bufPts c main_arg2 (wi1 m c)) rfl (wi1 m c)
    (Memref.readAt_unit_zero (Elt F) cc0_scratch3 off_zero _ _)) $$ a3
  iintro a3
  iapply (wp_doneTile m K c (sq 0) rfl (owed c 9) (mayWait_owed c 9 _ (by decide)) (slotVal c 0 (sv m 0 c)) (BI.Entails.refl _) rfl) $$ [HO g0]
  · isplitr; · iexact He
    iframe
  iintro ⟨HO, s0, z0⟩
  iapply (runs_ret c (k0_pay9 (wi1 m c)))
  iapply Hk
  iframe

set_option maxHeartbeats 2000000 in
/-- The left half is summed over the first pairing, and the sum sent to the second partner. -/
theorem part4_run (v4 : BitVec 32) (Kt : _ → sProp 𝕄) :
    iprop(env m K ∗ owesE c (owed c 9) ∗ flight c (vq 0) ∗ slotAny (F := F) c 4 ∗ slotAny (F := F) (pB c) 5 ∗ sendKit (F := F) c 2)
      ⊢ iprop(((owesE c (owed c 8) ∗ slotVal c 1 (sv m 0 (pA c)) ∗ rsAny (F := F) (shift 2 c) 1 ∗ shut c (vq 0) ∗ flight c (sq 2)) -∗ Kt (l1 m c))
          -∗ runs c (prt4 (F := F) out hout c v4 (l0 m c)) Kt) := by
  unfold prt4
  simp only [k0_part4_eq_skeleton]; unfold k0_part4_skel
  simp only [Prog.lift, Prog.bind_op, Prog.bind_ret, Prog.pure_eq_ret]
  iintro ⟨#He, HO, g, s, d, t⟩ Hk
  iapply (wp_doneTile m K c (vq 0) rfl (owed c 9) (mayWait_owed c 9 _ (by decide)) iprop(slotVal c 1 (sv m 0 (pA c)) ∗ rsAny (F := F) (shift 2 c) 1) (BI.Entails.refl _) rfl) $$ [HO g]
  · isplitr; · iexact He
    iframe
  iintro ⟨HO, ⟨a, r⟩, z⟩
  iapply (wp_slotLoad c 1 _ (sv m 0 (pA c))) $$ a
  iintro a
  iapply (wp_slotStore c 4 _ (sv m 2 c)) $$ s
  iintro s
  iapply (wp_sendTile m K c 2 (by decide) 8 rfl rfl (pB c) rfl (dev5 c) rfl rfl iprop(emp) (pay_tile m 2 (by decide) (by decide) c (pB c) rfl 5 rfl)) $$ [HO t s d]
  · isplitr; · iexact He
    iframe
  iintro ⟨HO, f⟩
  iapply (runs_ret c (l1 m c))
  iapply Hk
  iframe

set_option maxHeartbeats 2000000 in
/-- The right half is summed over the second pairing, and the sum sent to the first partner. -/
theorem part5_run (v3 v4 : BitVec 32) (Kt : _ → sProp 𝕄) :
    iprop(env m K ∗ owesE c (owed c 8) ∗ flight c (sq 1) ∗ flight c (vq 1) ∗ slotAny (F := F) c 6 ∗ slotAny (F := F) (pA c) 7 ∗ sendKit (F := F) c 3)
      ⊢ iprop(((owesE c (owed c 7) ∗ slotVal c 2 (sv m 1 c) ∗ shut c (sq 1) ∗ slotVal c 3 (sv m 1 (pB c)) ∗ shut c (vq 1) ∗ flight c (sq 3)) -∗ Kt (r1 m c))
          -∗ runs c (prt5 (F := F) out hout c v3 v4 (r0 m c)) Kt) := by
  unfold prt5
  simp only [k0_part5_eq_skeleton]; unfold k0_part5_skel
  simp only [Prog.lift, Prog.bind_op, Prog.bind_ret, Prog.pure_eq_ret]
  iintro ⟨#He, HO, g1, g, s, d, t⟩ Hk
  iapply (wp_doneTile m K c (sq 1) rfl (owed c 8) (mayWait_owed c 8 _ (by decide)) (slotVal c 2 (sv m 1 c)) (BI.Entails.refl _) rfl) $$ [HO g1]
  · isplitr; · iexact He
    iframe
  iintro ⟨HO, b, zb⟩
  iapply (wp_doneTile m K c (vq 1) rfl (owed c 8) (mayWait_owed c 8 _ (by decide)) (slotVal c 3 (sv m 1 (pB c))) (BI.Entails.refl _) rfl) $$ [HO g]
  · isplitr; · iexact He
    iframe
  iintro ⟨HO, a, z⟩
  iapply (wp_slotLoad c 3 _ (sv m 1 (pB c))) $$ a
  iintro a
  iapply (wp_slotStore c 6 _ (sv m 3 c)) $$ s
  iintro s
  iapply (wp_sendTile m K c 3 (by decide) 7 rfl rfl (pA c) rfl (dev6 c) rfl rfl iprop(emp) (pay_tile m 3 (by decide) (by decide) c (pA c) rfl 7 rfl)) $$ [HO t s d]
  · isplitr; · iexact He
    iframe
  iintro ⟨HO, f⟩
  iapply (runs_ret c (r1 m c))
  iapply Hk
  iframe

set_option maxHeartbeats 2000000 in
/-- The left half is summed over both pairings. -/
theorem part6_run (v4 : BitVec 32) (Kt : _ → sProp 𝕄) :
    iprop(env m K ∗ owesE c (owed c 7) ∗ flight c (lq 4) ∗ flight c (sq 2) ∗ flight c (vq 2))
      ⊢ iprop(((owesE c (owed c 7) ∗ loadPay m 4 c ∗ shut c (lq 4) ∗ slotVal c 4 (sv m 2 c) ∗ shut c (sq 2) ∗ slotVal c 5 (sv m 2 (pB c)) ∗ shut c (vq 2))
            -∗ Kt ⟨k0_pay14 (wo1 m c), l2 m c⟩)
          -∗ runs c (prt6 (F := F) out hout v4 (l1 m c)) Kt) := by
  unfold prt6
  simp only [k0_part6_eq_skeleton]; unfold k0_part6_skel
  simp only [Prog.lift, Prog.bind_op, Prog.bind_ret, Prog.pure_eq_ret]
  iintro ⟨#He, HO, f4, g1, g⟩ Hk
  iapply (wp_done m K c (lq 4) (owed c 7) (mayWait_owed c 7 _ (by decide)) (loadPay m 4 c) (BI.Entails.refl _) rfl (dst := Memref.whole cc0_scratch4) rfl) $$ [HO f4]
  · isplitr; · iexact He
    iframe
  iintro ⟨HO, a4, z4⟩
  iapply (wp_peekFst c (mm := Memref.whole cc0_scratch4) (f := wo1 m c) (loadPay m 4 c) (bufPts c main_arg5 (wo1 m c)) rfl (wo1 m c)
    (Memref.readAt_unit_zero (Elt F) cc0_scratch4 off_zero _ _)) $$ a4
  iintro a4
  iapply (wp_doneTile m K c (sq 2) rfl (owed c 7) (mayWait_owed c 7 _ (by decide)) (slotVal c 4 (sv m 2 c)) (BI.Entails.refl _) rfl) $$ [HO g1]
  · isplitr; · iexact He
    iframe
  iintro ⟨HO, b, zb⟩
  iapply (wp_doneTile m K c (vq 2) rfl (owed c 7) (mayWait_owed c 7 _ (by decide)) (slotVal c 5 (sv m 2 (pB c))) (BI.Entails.refl _) rfl) $$ [HO g]
  · isplitr; · iexact He
    iframe
  iintro ⟨HO, a, z⟩
  iapply (wp_slotLoad c 5 _ (sv m 2 (pB c))) $$ a
  iintro a
  iapply (runs_ret c (⟨k0_pay14 (wo1 m c), l2 m c⟩ : Σ' (v143 : FVec F S512x256 .bf16), FVec F S256x128 .f32))
  iapply Hk
  iframe

end Parts

end Cert.Tower

end
-- ==== Proof.LayerTwo.lean ====
/-
# The second layer, part by part

Each part of the body, run from what it uses to what it leaves.
-/
module

public import proofs.«01_k».proof.Proof.Parts

@[expose] public section

noncomputable section

namespace Cert.Tower

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Fin 31 → ℕ)

section Parts
variable (out : Memref sig .tc .vmem S64x256 .f32) (hout : out.IsWhole) (c : Dev nD)

set_option maxHeartbeats 2000000 in
/-- The right half is summed over both pairings, the second layer applied, and its left half stored to be sent. -/
theorem part7_run (v3 : BitVec 32) (Kt : _ → sProp 𝕄) :
    iprop(env m K ∗ owesE c (owed c 7) ∗ flight c (sq 3) ∗ flight c (vq 3) ∗ slotAny (F := F) c 8)
      ⊢ iprop(((owesE c (owed c 7) ∗ slotVal c 6 (sv m 3 c) ∗ shut c (sq 3) ∗ slotVal c 7 (sv m 3 (pA c)) ∗ shut c (vq 3) ∗ slotVal c 8 (sv m 4 c)) -∗ Kt ⟨l3 m c, r3 m c⟩)
          -∗ runs c (prt7 (F := F) out hout v3 (k0_pay9 (wi1 m c)) (r1 m c) (k0_pay14 (wo1 m c)) (l2 m c)) Kt) := by
  unfold prt7
  simp only [k0_part7_eq_skeleton]; unfold k0_part7_skel
  simp only [Prog.lift, Prog.bind_op, Prog.bind_ret, Prog.pure_eq_ret]
  iintro ⟨#He, HO, g1, g, s⟩ Hk
  iapply (wp_doneTile m K c (sq 3) rfl (owed c 7) (mayWait_owed c 7 _ (by decide)) (slotVal c 6 (sv m 3 c)) (BI.Entails.refl _) rfl) $$ [HO g1]
  · isplitr; · iexact He
    iframe
  iintro ⟨HO, b, zb⟩
  iapply (wp_doneTile m K c (vq 3) rfl (owed c 7) (mayWait_owed c 7 _ (by decide)) (slotVal c 7 (sv m 3 (pA c))) (BI.Entails.refl _) rfl) $$ [HO g]
  · isplitr; · iexact He
    iframe
  iintro ⟨HO, a, z⟩
  iapply (wp_slotLoad c 7 _ (sv m 3 (pA c))) $$ a
  iintro a
  iapply (wp_slotStore c 8 _ (sv m 4 c)) $$ s
  iintro s
  iapply (runs_ret c (⟨l3 m c, r3 m c⟩ : Σ' (v191 : FVec F S256x128 .f32), FVec F S256x128 .f32))
  iapply Hk
  iframe

set_option maxHeartbeats 2000000 in
/-- The second layer's two halves are sent to the two partners. -/
theorem part8_run (v3 v4 : BitVec 32) (Kt : _ → sProp 𝕄) :
    iprop(env m K ∗ owesE c (owed c 7) ∗ slotVal c 8 (sv m 4 c) ∗ slotAny (F := F) (pA c) 9 ∗ sendKit (F := F) c 4 ∗ slotAny (F := F) c 10 ∗ slotAny (F := F) (pB c) 11 ∗ sendKit (F := F) c 5 ∗ flight c (lq 5))
      ⊢ iprop(((owesE c (owed c 5) ∗ flight c (sq 4) ∗ flight c (sq 5) ∗ loadPay m 5 c ∗ shut c (lq 5)) -∗ Kt (k0_pay21 (wi2 m c)))
          -∗ runs c (prt8 (F := F) out hout c v3 v4 (r3 m c)) Kt) := by
  unfold prt8
  simp only [k0_part8_eq_skeleton]; unfold k0_part8_skel
  simp only [Prog.lift, Prog.bind_op, Prog.bind_ret, Prog.pure_eq_ret]
  iintro ⟨#He, HO, s, d, t, s', d', t', f5⟩ Hk
  iapply (wp_sendTile m K c 4 (by decide) 6 rfl rfl (pA c) rfl (dev7 c) rfl rfl iprop(emp) (pay_tile m 4 (by decide) (by decide) c (pA c) rfl 9 rfl)) $$ [HO t s d]
  · isplitr; · iexact He
    iframe
  iintro ⟨HO, g⟩
  iapply (wp_slotStore c 10 _ (sv m 5 c)) $$ s'
  iintro s'
  iapply (wp_sendTile m K c 5 (by decide) 5 rfl rfl (pB c) rfl (dev8 c) rfl rfl iprop(emp) (pay_tile m 5 (by decide) (by decide) c (pB c) rfl 11 rfl)) $$ [HO t' s' d']
  · isplitr; · iexact He
    iframe
  iintro ⟨HO, g'⟩
  iapply (wp_done m K c (lq 5) (owed c 5) (mayWait_owed c 5 _ (by decide)) (loadPay m 5 c) (BI.Entails.refl _) rfl (dst := Memref.whole cc0_scratch5) rfl) $$ [HO f5]
  · isplitr; · iexact He
    iframe
  iintro ⟨HO, a5, z5⟩
  iapply (wp_peekFst c (mm := Memref.whole cc0_scratch5) (f := wi2 m c) (loadPay m 5 c) (bufPts c main_arg3 (wi2 m c)) rfl (wi2 m c)
    (Memref.readAt_unit_zero (Elt F) cc0_scratch5 off_zero _ _)) $$ a5
  iintro a5
  iapply (runs_ret c (k0_pay21 (wi2 m c)))
  iapply Hk
  iframe

set_option maxHeartbeats 2000000 in
/-- The left half is summed over the first pairing, and the sum stored to be sent. -/
theorem part9_run (v3 v4 : BitVec 32) (Kt : _ → sProp 𝕄) :
    iprop(env m K ∗ owesE c (owed c 5) ∗ flight c (sq 4) ∗ flight c (vq 4) ∗ slotAny (F := F) c 12)
      ⊢ iprop(((owesE c (owed c 5) ∗ slotVal c 8 (sv m 4 c) ∗ shut c (sq 4) ∗ slotVal c 9 (sv m 4 (pA c)) ∗ shut c (vq 4) ∗ slotVal c 12 (sv m 6 c)) -∗ Kt (l4 m c))
          -∗ runs c (prt9 (F := F) out hout v3 v4 (l3 m c)) Kt) := by
  unfold prt9
  simp only [k0_part9_eq_skeleton]; unfold k0_part9_skel
  simp only [Prog.lift, Prog.bind_op, Prog.bind_ret, Prog.pure_eq_ret]
  iintro ⟨#He, HO, g1, g, s⟩ Hk
  iapply (wp_doneTile m K c (sq 4) rfl (owed c 5) (mayWait_owed c 5 _ (by decide)) (slotVal c 8 (sv m 4 c)) (BI.Entails.refl _) rfl) $$ [HO g1]
  · isplitr; · iexact He
    iframe
  iintro ⟨HO, b, zb⟩
  iapply (wp_doneTile m K c (vq 4) rfl (owed c 5) (mayWait_owed c 5 _ (by decide)) (slotVal c 9 (sv m 4 (pA c))) (BI.Entails.refl _) rfl) $$ [HO g]
  · isplitr; · iexact He
    iframe
  iintro ⟨HO, a, z⟩
  iapply (wp_slotLoad c 9 _ (sv m 4 (pA c))) $$ a
  iintro a
  iapply (wp_slotStore c 12 _ (sv m 6 c)) $$ s
  iintro s
  iapply (runs_ret c (l4 m c))
  iapply Hk
  iframe

set_option maxHeartbeats 2000000 in
/-- That sum goes to the second partner; the right half is summed over the second pairing, and the sum stored to be sent. -/
theorem part10_run (v4 : BitVec 32) (Kt : _ → sProp 𝕄) :
    iprop(env m K ∗ owesE c (owed c 5) ∗ slotVal c 12 (sv m 6 c) ∗ slotAny (F := F) (pB c) 13 ∗ sendKit (F := F) c 6 ∗ flight c (sq 5) ∗ flight c (vq 5) ∗ slotAny (F := F) c 14)
      ⊢ iprop(((owesE c (owed c 4) ∗ flight c (sq 6) ∗ slotVal c 10 (sv m 5 c) ∗ shut c (sq 5) ∗ slotVal c 11 (sv m 5 (pB c)) ∗ shut c (vq 5) ∗ slotVal c 14 (sv m 7 c)) -∗ Kt (r4 m c))
          -∗ runs c (prt10 (F := F) out hout c v4 (r3 m c)) Kt) := by
  unfold prt10
  simp only [k0_part10_eq_skeleton]; unfold k0_part10_skel
  simp only [Prog.lift, Prog.bind_op, Prog.bind_ret, Prog.pure_eq_ret]
  iintro ⟨#He, HO, s, d, t, g1, g, s'⟩ Hk
  iapply (wp_sendTile m K c 6 (by decide) 4 rfl rfl (pB c) rfl (dev9 c) rfl rfl iprop(emp) (pay_tile m 6 (by decide) (by decide) c (pB c) rfl 13 rfl)) $$ [HO t s d]
  · isplitr; · iexact He
    iframe
  iintro ⟨HO, f⟩
  iapply (wp_doneTile m K c (sq 5) rfl (owed c 4) (mayWait_owed c 4 _ (by decide)) (slotVal c 10 (sv m 5 c)) (BI.Entails.refl _) rfl) $$ [HO g1]
  · isplitr; · iexact He
    iframe
  iintro ⟨HO, b, zb⟩
  iapply (wp_doneTile m K c (vq 5) rfl (owed c 4) (mayWait_owed c 4 _ (by decide)) (slotVal c 11 (sv m 5 (pB c))) (BI.Entails.refl _) rfl) $$ [HO g]
  · isplitr; · iexact He
    iframe
  iintro ⟨HO, a, z⟩
  iapply (wp_slotLoad c 11 _ (sv m 5 (pB c))) $$ a
  iintro a
  iapply (wp_slotStore c 14 _ (sv m 7 c)) $$ s'
  iintro s'
  iapply (runs_ret c (r4 m c))
  iapply Hk
  iframe

set_option maxHeartbeats 2000000 in
/-- That sum goes to the first partner; the left half's other sum arrives. -/
theorem part11_run (v3 v4 : BitVec 32) (Kt : _ → sProp 𝕄) :
    iprop(env m K ∗ owesE c (owed c 4) ∗ slotVal c 14 (sv m 7 c) ∗ slotAny (F := F) (pA c) 15 ∗ sendKit (F := F) c 7 ∗ flight c (lq 6) ∗ flight c (sq 6) ∗ flight c (vq 6))
      ⊢ iprop(((owesE c (owed c 3) ∗ flight c (sq 7) ∗ loadPay m 6 c ∗ shut c (lq 6) ∗ slotVal c 12 (sv m 6 c) ∗ shut c (sq 6) ∗ slotVal c 13 (sv m 6 (pB c)) ∗ shut c (vq 6)) -∗ Kt (k0_pay26 (wo2 m c)))
          -∗ runs c (prt11 (F := F) out hout c v3 v4) Kt) := by
  unfold prt11
  simp only [k0_part11_eq_skeleton]; unfold k0_part11_skel
  simp only [Prog.lift, Prog.bind_op, Prog.bind_ret, Prog.pure_eq_ret]
  iintro ⟨#He, HO, s, d, t, f6, g1, g⟩ Hk
  iapply (wp_sendTile m K c 7 (by decide) 3 rfl rfl (pA c) rfl (dev10 c) rfl rfl iprop(emp) (pay_tile m 7 (by decide) (by decide) c (pA c) rfl 15 rfl)) $$ [HO t s d]
  · isplitr; · iexact He
    iframe
  iintro ⟨HO, f⟩
  iapply (wp_done m K c (lq 6) (owed c 3) (mayWait_owed c 3 _ (by decide)) (loadPay m 6 c) (BI.Entails.refl _) rfl (dst := Memref.whole cc0_scratch6) rfl) $$ [HO f6]
  · isplitr; · iexact He
    iframe
  iintro ⟨HO, a6, z6⟩
  iapply (wp_peekFst c (mm := Memref.whole cc0_scratch6) (f := wo2 m c) (loadPay m 6 c) (bufPts c main_arg6 (wo2 m c)) rfl (wo2 m c)
    (Memref.readAt_unit_zero (Elt F) cc0_scratch6 off_zero _ _)) $$ a6
  iintro a6
  iapply (wp_doneTile m K c (sq 6) rfl (owed c 3) (mayWait_owed c 3 _ (by decide)) (slotVal c 12 (sv m 6 c)) (BI.Entails.refl _) rfl) $$ [HO g1]
  · isplitr; · iexact He
    iframe
  iintro ⟨HO, b, zb⟩
  iapply (wp_doneTile m K c (vq 6) rfl (owed c 3) (mayWait_owed c 3 _ (by decide)) (slotVal c 13 (sv m 6 (pB c))) (BI.Entails.refl _) rfl) $$ [HO g]
  · isplitr; · iexact He
    iframe
  iintro ⟨HO, a, z⟩
  iapply (runs_ret c (k0_pay26 (wo2 m c)))
  iapply Hk
  iframe

end Parts

end Cert.Tower

end
-- ==== Proof.LayerThree.lean ====
/-
# The last layer, part by part

Each part of the body, run from what it uses to what it leaves.
-/
module

public import proofs.«01_k».proof.Proof.Parts

@[expose] public section

noncomputable section

namespace Cert.Tower

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Fin 31 → ℕ)

section Parts
variable (out : Memref sig .tc .vmem S64x256 .f32) (hout : out.IsWhole) (c : Dev nD)

set_option maxHeartbeats 2000000 in
/-- The last layer's product is formed from the sums over both pairings. -/
theorem part12_run (v3 : BitVec 32) (Kt : _ → sProp 𝕄) :
    iprop(env m K ∗ owesE c (owed c 3) ∗ slotVal c 13 (sv m 6 (pB c)) ∗ flight c (sq 7) ∗ flight c (vq 7))
      ⊢ iprop(((owesE c (owed c 3) ∗ slotVal c 13 (sv m 6 (pB c)) ∗ slotVal c 14 (sv m 7 c) ∗ shut c (sq 7) ∗ slotVal c 15 (sv m 7 (pA c)) ∗ shut c (vq 7)) -∗ Kt ⟨k0_pay27 (k0_pay21 (wi2 m c)) (l4 m c) (r4 m c) (sv m 6 (pB c)) (sv m 7 (pA c)), k0_pay28⟩)
          -∗ runs c (prt12 (F := F) out hout v3 (k0_pay21 (wi2 m c)) (l4 m c) (r4 m c)) Kt) := by
  unfold prt12
  simp only [k0_part12_eq_skeleton]; unfold k0_part12_skel
  simp only [Prog.lift, Prog.bind_op, Prog.bind_ret, Prog.pure_eq_ret]
  iintro ⟨#He, HO, b, g1, g⟩ Hk
  iapply (wp_slotLoad c 13 _ (sv m 6 (pB c))) $$ b
  iintro b
  iapply (wp_doneTile m K c (sq 7) rfl (owed c 3) (mayWait_owed c 3 _ (by decide)) (slotVal c 14 (sv m 7 c)) (BI.Entails.refl _) rfl) $$ [HO g1]
  · isplitr; · iexact He
    iframe
  iintro ⟨HO, b', zb⟩
  iapply (wp_doneTile m K c (vq 7) rfl (owed c 3) (mayWait_owed c 3 _ (by decide)) (slotVal c 15 (sv m 7 (pA c))) (BI.Entails.refl _) rfl) $$ [HO g]
  · isplitr; · iexact He
    iframe
  iintro ⟨HO, a, z⟩
  iapply (wp_slotLoad c 15 _ (sv m 7 (pA c))) $$ a
  iintro a
  iapply (runs_ret c (⟨k0_pay27 (k0_pay21 (wi2 m c)) (l4 m c) (r4 m c) (sv m 6 (pB c)) (sv m 7 (pA c)), k0_pay28⟩ : Σ' (v336 : FVec F S256x512 .f32), FVec F S256x512 .f32))
  iapply Hk
  iframe

set_option maxHeartbeats 2000000 in
/-- The activations are written, and the row block two places on is multiplied out and sent. -/
theorem part13_run (v2 : BitVec 32) (Kt : _ → sProp 𝕄) :
    iprop(env m K ∗ owesE c (owed c 3) ∗ bufAny (F := F) c cc0_scratch9 ∗ rowAny (F := F) c 2 ∗ rsAny (F := F) (shift 2 c) 1 ∗ sendKit (F := F) c 9 ∗ rowAny (F := F) c 1)
      ⊢ iprop((∀ v344 v364, (owesE c (owed c 2) ∗ bufPts c cc0_scratch9 (hAt m c) ∗ flight c (sq 9) ∗ rowAny (F := F) c 1) -∗ Kt ⟨v344, v364, k0_pay31 (k0_pay26 (wo2 m c)) (hRow m 1 c)⟩)
          -∗ runs c (prt13 (F := F) out hout c v2 (k0_pay26 (wo2 m c)) (k0_pay27 (k0_pay21 (wi2 m c)) (l4 m c) (r4 m c) (sv m 6 (pB c)) (sv m 7 (pA c))) k0_pay28) Kt) := by
  unfold prt13
  simp only [k0_part13_eq_skeleton]; unfold k0_part13_skel
  simp only [Prog.lift, Prog.bind_op, Prog.bind_ret, Prog.pure_eq_ret]
  iintro ⟨#He, HO, Hh, p2, d, t, p1⟩ Hk
  unfold bufAny
  icases Hh with ⟨%fh, Hh⟩
  iapply (wp_peek c (mm := hM) (r := (Rect.unit (s := S256x512) ![0, 0] S256x512.size inb_S256x512_S256x512_0_0).toLoadRect) (S := Finset.univ) (f := fh) (bufPts c cc0_scratch9 fh) _ rfl (Finset.subset_univ _) rfl) $$ Hh
  iintro Hh
  iapply (wp_poke c (mm := hM) (r := Rect.unit (s := S256x512) ![0, 0] S256x512.size inb_S256x512_S256x512_0_0) (w := hAt m c) (S := Finset.univ) (f := fh) (bufPts c cc0_scratch9 fh) (bufPts c cc0_scratch9 (hAt m c)) rfl (Finset.subset_univ _)
    (congrArg (bufPts c cc0_scratch9) (Memref.write_access_unit_zero_univ (Elt F) cc0_scratch9 off_zero _ fh (hAt m c)))) $$ Hh
  iintro Hh
  iapply (wp_hRow m c 2 (off1_eq 2 c 1 rfl)) $$ Hh
  iintro Hh
  iapply (wp_rowPeek c 2 (off2_eq 2 c 1 rfl)) $$ p2
  iintro p2
  iapply (wp_rowStore c 2 (off2_eq 2 c 1 rfl) (rv m 2 c)) $$ p2
  iintro p2
  iapply (wp_sendRows m K c 9 (by decide) (by decide) 2 rfl (off3_eq 2 c 1 rfl) (shift 2 c) rfl (dev11 c) rfl rfl (pay_rows m 9 (by decide) (by decide) c (shift 2 c) rfl 1 rfl)) $$ [HO t p2 d]
  · isplitr; · iexact He
    iframe
  iintro ⟨HO, f⟩
  iapply (wp_hRow m c 1 (off1_eq 1 c 0 rfl)) $$ Hh
  iintro Hh
  iapply (wp_rowPeek c 1 (off2_eq 1 c 0 rfl)) $$ p1
  iintro p1
  iapply (runs_ret c (⟨_, _, k0_pay31 (k0_pay26 (wo2 m c)) (hRow m 1 c)⟩ : Σ' (v344 : BitVec 32) (v364 : BitVec 32), FVec F S64x256 .bf16))
  iapply Hk $$ %_ %_
  iframe

set_option maxHeartbeats 2000000 in
/-- The other two row blocks are multiplied out and sent. -/
theorem part14_run (v2 v364 : BitVec 32) (Kt : _ → sProp 𝕄) :
    iprop(env m K ∗ owesE c (owed c 2) ∗ rowAny (F := F) c 1 ∗ rsAny (F := F) (shift 1 c) 2 ∗ sendKit (F := F) c 8 ∗ bufPts c cc0_scratch9 (hAt m c) ∗ rowAny (F := F) c 3 ∗ rsAny (F := F) (shift 3 c) 0 ∗ sendKit (F := F) c 10)
      ⊢ iprop((∀ v384, (owesE c (owed c 0) ∗ flight c (sq 8) ∗ bufPts c cc0_scratch9 (hAt m c) ∗ flight c (sq 10)) -∗ Kt v384)
          -∗ runs c (prt14 (F := F) out hout c v2 (k0_pay26 (wo2 m c)) v364 (k0_pay31 (k0_pay26 (wo2 m c)) (hRow m 1 c))) Kt) := by
  unfold prt14
  simp only [k0_part14_eq_skeleton]; unfold k0_part14_skel
  simp only [Prog.lift, Prog.bind_op, Prog.bind_ret, Prog.pure_eq_ret]
  iintro ⟨#He, HO, p1, d, t, Hh, p3, d', t'⟩ Hk
  iapply (wp_rowStore c 1 (off2_eq 1 c 0 rfl) (rv m 1 c)) $$ p1
  iintro p1
  iapply (wp_sendRows m K c 8 (by decide) (by decide) 1 rfl (off3_eq 1 c 0 rfl) (shift 1 c) rfl (dev12 c) rfl rfl (pay_rows m 8 (by decide) (by decide) c (shift 1 c) rfl 2 rfl)) $$ [HO t p1 d]
  · isplitr; · iexact He
    iframe
  iintro ⟨HO, f⟩
  iapply (wp_hRow m c 3 (off1_eq 3 c 2 rfl)) $$ Hh
  iintro Hh
  iapply (wp_rowPeek c 3 (off2_eq 3 c 2 rfl)) $$ p3
  iintro p3
  iapply (wp_rowStore c 3 (off2_eq 3 c 2 rfl) (rv m 3 c)) $$ p3
  iintro p3
  iapply (wp_sendRows m K c 10 (by decide) (by decide) 0 rfl (off3_eq 3 c 2 rfl) (shift 3 c) rfl (dev13 c) rfl rfl (pay_rows m 10 (by decide) (by decide) c (shift 3 c) rfl 0 rfl)) $$ [HO t' p3 d']
  · isplitr; · iexact He
    iframe
  iintro ⟨HO, f'⟩
  iapply (runs_ret c _)
  iapply Hk $$ %_
  iframe

set_option maxHeartbeats 2000000 in
/-- The own row block is multiplied out, and row blocks leave and arrive. -/
theorem part15_run (v344 v364 : BitVec 32) (Kt : _ → sProp 𝕄) :
    iprop(env m K ∗ owesE c (owed c 0) ∗ bufPts c cc0_scratch9 (hAt m c) ∗ flight c (sq 9) ∗ flight c (vq 9) ∗ flight c (sq 8))
      ⊢ iprop(((owesE c (owed c 0) ∗ bufPts c cc0_scratch9 (hAt m c) ∗ rowVal c 2 (rv m 2 c) ∗ shut c (sq 9) ∗ rsVal c 1 (rv m 2 (shift 2 c)) ∗ shut c (vq 9) ∗ rowVal c 1 (rv m 1 c) ∗ shut c (sq 8)) -∗ Kt (k0_pay34 (k0_pay26 (wo2 m c)) (hRow m 0 c)))
          -∗ runs c (prt15 (F := F) out hout c (k0_pay26 (wo2 m c)) v344 v364) Kt) := by
  unfold prt15
  simp only [k0_part15_eq_skeleton]; unfold k0_part15_skel
  simp only [Prog.lift, Prog.bind_op, Prog.bind_ret, Prog.pure_eq_ret]
  iintro ⟨#He, HO, Hh, f, g, f'⟩ Hk
  iapply (wp_hRow m c 0 (off4_eq c)) $$ Hh
  iintro Hh
  iapply (wp_doneRow m K c (sq 9) rfl (owed c 0) (mayWait_owed c 0 _ (by decide)) (rowVal c 2 (rv m 2 c)) (BI.Entails.refl _) rfl) $$ [HO f]
  · isplitr; · iexact He
    iframe
  iintro ⟨HO, a, za⟩
  iapply (wp_doneRs m K c (vq 9) rfl (owed c 0) (mayWait_owed c 0 _ (by decide)) (rsVal c 1 (rv m 2 (shift 2 c))) (BI.Entails.refl _) rfl) $$ [HO g]
  · isplitr; · iexact He
    iframe
  iintro ⟨HO, b, zb⟩
  iapply (wp_doneRow m K c (sq 8) rfl (owed c 0) (mayWait_owed c 0 _ (by decide)) (rowVal c 1 (rv m 1 c)) (BI.Entails.refl _) rfl) $$ [HO f']
  · isplitr; · iexact He
    iframe
  iintro ⟨HO, d, zd⟩
  iapply (runs_ret c (k0_pay34 (k0_pay26 (wo2 m c)) (hRow m 0 c)))
  iapply Hk
  iframe

end Parts

end Cert.Tower

end
-- ==== Proof.Body.lean ====
/-
# The body

The parts run one after another: what the body starts from, what it leaves.
-/
module

public import proofs.«01_k».proof.Proof.LayerOne
public import proofs.«01_k».proof.Proof.LayerTwo
public import proofs.«01_k».proof.Proof.LayerThree

@[expose] public section

noncomputable section

namespace Cert.Tower

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Fin 31 → ℕ)

section Body
variable (c : Dev nD)

/-- The arguments as launched. -/
def argsPts : sProp 𝕄 :=
  iprop(bufPts c main_arg0 (xAt m c) ∗ bufPts c main_arg1 (wi0 m c) ∗ bufPts c main_arg4 (wo0 m c) ∗ bufPts c main_arg2 (wi1 m c) ∗ bufPts c main_arg5 (wo1 m c) ∗ bufPts c main_arg3 (wi2 m c) ∗ bufPts c main_arg6 (wo2 m c))

/-- The buffers the arguments are copied into. -/
def copiesAny : sProp 𝕄 :=
  iprop(bufAny (F := F) c cc0_scratch0 ∗ bufAny (F := F) c cc0_scratch1 ∗ bufAny (F := F) c cc0_scratch2 ∗ bufAny (F := F) c cc0_scratch3 ∗ bufAny (F := F) c cc0_scratch4 ∗ bufAny (F := F) c cc0_scratch5 ∗ bufAny (F := F) c cc0_scratch6)

/-- What starting the copies takes, … -/
def fetchKits : sProp 𝕄 := iprop(fetchKit (F := F) c 0 ∗ fetchKit (F := F) c 1 ∗ fetchKit (F := F) c 2 ∗ fetchKit (F := F) c 3 ∗ fetchKit (F := F) c 4 ∗ fetchKit (F := F) c 5 ∗ fetchKit (F := F) c 6)
/-- … starting the transfers, … -/
def sendKits : sProp 𝕄 := iprop(sendKit (F := F) c 0 ∗ sendKit (F := F) c 1 ∗ sendKit (F := F) c 2 ∗ sendKit (F := F) c 3 ∗ sendKit (F := F) c 4 ∗ sendKit (F := F) c 5 ∗ sendKit (F := F) c 6 ∗ sendKit (F := F) c 7 ∗ sendKit (F := F) c 8 ∗ sendKit (F := F) c 9 ∗ sendKit (F := F) c 10)
/-- … and awaiting arrivals. -/
def arrivals : sProp 𝕄 := iprop(flight (F := F) c (vq 0) ∗ flight (F := F) c (vq 1) ∗ flight (F := F) c (vq 2) ∗ flight (F := F) c (vq 3) ∗ flight (F := F) c (vq 4) ∗ flight (F := F) c (vq 5) ∗ flight (F := F) c (vq 6) ∗ flight (F := F) c (vq 7) ∗ flight (F := F) c (vq 8) ∗ flight (F := F) c (vq 9) ∗ flight (F := F) c (vq 10))
/-- The slots a device itself writes, … -/
def ownEven : sProp 𝕄 := iprop(slotAny (F := F) c 0 ∗ slotAny (F := F) c 2 ∗ slotAny (F := F) c 4 ∗ slotAny (F := F) c 6 ∗ slotAny (F := F) c 8 ∗ slotAny (F := F) c 10 ∗ slotAny (F := F) c 12 ∗ slotAny (F := F) c 14)
/-- … and the row blocks it sends. -/
def ownRows : sProp 𝕄 := iprop(rowAny (F := F) c 1 ∗ rowAny (F := F) c 2 ∗ rowAny (F := F) c 3)

/-- What the body starts from, … -/
def kit : sProp 𝕄 :=
  iprop(meetKit (F := F) c ∗ ownOdd (F := F) c ∗ fetchKits (F := F) c ∗ argsPts m c ∗ copiesAny (F := F) c ∗ sendKits (F := F) c ∗ arrivals (F := F) c
    ∗ ownEven (F := F) c ∗ bufAny (F := F) c cc0_scratch9 ∗ ownRows (F := F) c)

/-- The semaphores closed by the end. -/
def shuts : sProp 𝕄 :=
  iprop((shut (F := F) c (lq 0) ∗ shut (F := F) c (lq 1) ∗ shut (F := F) c (lq 2) ∗ shut (F := F) c (lq 3) ∗ shut (F := F) c (lq 4) ∗ shut (F := F) c (lq 5) ∗ shut (F := F) c (lq 6))
    ∗ (shut (F := F) c (sq 0) ∗ shut (F := F) c (sq 1) ∗ shut (F := F) c (sq 2) ∗ shut (F := F) c (sq 3) ∗ shut (F := F) c (sq 4) ∗ shut (F := F) c (sq 5) ∗ shut (F := F) c (sq 6) ∗ shut (F := F) c (sq 7) ∗ shut (F := F) c (sq 8) ∗ shut (F := F) c (sq 9) ∗ shut (F := F) c (sq 10))
    ∗ (shut (F := F) c (vq 0) ∗ shut (F := F) c (vq 1) ∗ shut (F := F) c (vq 2) ∗ shut (F := F) c (vq 3) ∗ shut (F := F) c (vq 4) ∗ shut (F := F) c (vq 5) ∗ shut (F := F) c (vq 6) ∗ shut (F := F) c (vq 7) ∗ shut (F := F) c (vq 8) ∗ shut (F := F) c (vq 9) ∗ shut (F := F) c (vq 10)))

/-- … and what it leaves. -/
def leftover : sProp 𝕄 :=
  iprop(semVal (barCell c) 0 ∗ argsPts m c ∗ copiesAny (F := F) c ∗ ownEven (F := F) c ∗ ownOdd (F := F) c ∗ bufAny (F := F) c cc0_scratch9 ∗ ownRows (F := F) c
    ∗ shuts (F := F) c)

omit [FloatOps F] in
theorem slotVal_any (k : ℕ) (v : Vec F S1x256x128 .bf16) : slotVal c k v ⊢ slotAny (F := F) c k := by
  unfold slotVal slotAny; iintro H; iexists _; iexact H
omit [FloatOps F] in
theorem rsVal_any (k : ℕ) (v : Vec F S64x256 .bf16) : rsVal c k v ⊢ rsAny (F := F) c k := by
  unfold rsVal rsAny; iintro H; iexists _; iexact H
omit [FloatOps F] in
theorem rowVal_any (i : ℕ) (v : Vec F S64x256 .bf16) : rowVal c i v ⊢ rowAny (F := F) c i := by
  unfold rowVal rowAny; iintro H; iexists _; iexact H
omit [FloatOps F] in
theorem bufPts_any (b : Ref sig .tc) (f : b.ty.Contents (Elt F)) : bufPts c b f ⊢ bufAny (F := F) c b := by
  unfold bufAny; iintro H; iexists _; iexact H

/-- Copies and arguments, held together after each copy, apart again. -/
theorem loads_back :
    iprop(loadPay m 0 c ∗ loadPay m 1 c ∗ loadPay m 2 c ∗ loadPay m 3 c ∗ loadPay m 4 c ∗ loadPay m 5 c ∗ loadPay m 6 c) ⊢ iprop(argsPts m c ∗ copiesAny (F := F) c) := by
  unfold argsPts copiesAny
  simp only [loadPay]
  iintro ⟨⟨b0, a0⟩, ⟨b1, a1⟩, ⟨b2, a2⟩, ⟨b3, a3⟩, ⟨b4, a4⟩, ⟨b5, a5⟩, ⟨b6, a6⟩⟩
  ihave b0 := (bufPts_any c cc0_scratch0 (xAt m c)) $$ b0
  ihave b1 := (bufPts_any c cc0_scratch1 (wi0 m c)) $$ b1
  ihave b2 := (bufPts_any c cc0_scratch2 (wo0 m c)) $$ b2
  ihave b3 := (bufPts_any c cc0_scratch3 (wi1 m c)) $$ b3
  ihave b4 := (bufPts_any c cc0_scratch4 (wo1 m c)) $$ b4
  ihave b5 := (bufPts_any c cc0_scratch5 (wi2 m c)) $$ b5
  ihave b6 := (bufPts_any c cc0_scratch6 (wo2 m c)) $$ b6
  iframe

/-- What is held when the result is ready to be formed. -/
def ripe : sProp 𝕄 :=
  iprop(owesE (F := F) c (owed c 0) ∗ semVal (barCell c) 0 ∗ (loadPay m 0 c ∗ loadPay m 1 c ∗ loadPay m 2 c ∗ loadPay m 3 c ∗ loadPay m 4 c ∗ loadPay m 5 c ∗ loadPay m 6 c) ∗ (slotVal c 0 (sv m 0 c) ∗ slotVal c 1 (sv m 0 (pA c)) ∗ slotVal c 2 (sv m 1 c) ∗ slotVal c 3 (sv m 1 (pB c)) ∗ slotVal c 4 (sv m 2 c) ∗ slotVal c 5 (sv m 2 (pB c)) ∗ slotVal c 6 (sv m 3 c) ∗ slotVal c 7 (sv m 3 (pA c)) ∗ slotVal c 8 (sv m 4 c) ∗ slotVal c 9 (sv m 4 (pA c)) ∗ slotVal c 10 (sv m 5 c) ∗ slotVal c 11 (sv m 5 (pB c)) ∗ slotVal c 12 (sv m 6 c) ∗ slotVal c 13 (sv m 6 (pB c)) ∗ slotVal c 14 (sv m 7 c) ∗ slotVal c 15 (sv m 7 (pA c))) ∗ rsVal c 0 (rv m 3 (shift 1 c)) ∗ rsVal c 1 (rv m 2 (shift 2 c)) ∗ rsVal c 2 (rv m 1 (shift 3 c)) ∗ bufPts c cc0_scratch9 (hAt m c) ∗ rowVal c 1 (rv m 1 c) ∗ rowVal c 2 (rv m 2 c) ∗ rowVal c 3 (rv m 3 c) ∗ shuts (F := F) c)

set_option maxHeartbeats 4000000 in
/-- The body up to its last sum. -/
theorem part16_run (out : Memref sig .tc .vmem S64x256 .f32) (hout : out.IsWhole) (Kt : _ → sProp 𝕄) :
    iprop(env m K ∗ owesE c (O₀ c) ∗ kit m c)
      ⊢ iprop((ripe m c -∗ Kt (k0_pay35 (k0_pay34 (k0_pay26 (wo2 m c)) (hRow m 0 c)) (tileOf (rv m 3 (shift 1 c))) (tileOf (rv m 2 (shift 2 c)))))
          -∗ runs c (prt16 (F := F) out hout) Kt) := by
  unfold prt16
  simp only [k0_part16_eq_skeleton]; unfold k0_part16_skel
  simp only [Prog.lift, Prog.bind_op, Prog.bind_ret, Prog.pure_eq_ret]
  unfold kit fetchKits argsPts copiesAny sendKits arrivals ownEven ownRows
  iintro ⟨#He, HO, Hmeet, Hodd, Hf, Ha, Hb, ⟨t0, t1, t2, t3, t4, t5, t6, t7, t8, t9, t10⟩, ⟨v0, v1, v2, v3, v4, v5, v6, v7, v8, v9, v10⟩, ⟨e0, e2, e4, e6, e8, e10, e12, e14⟩, Hh, ⟨q1, q2, q3⟩⟩ Hk
  iapply (runs_bind c)
  iapply (part1_run m K out hout c) $$ [HO Hmeet Hodd Hf Ha Hb]
  · isplitr; · iexact He
    iframe
  iintro %v2 %v3 %v4 ⟨HO, Hgot, Hbar, p0, zl0, l1, l2, l3, l4, l5, l6⟩
  unfold gotOdd
  icases Hgot with ⟨o1, o3, o5, o7, o9, o11, o13, o15, n0, n1, n2⟩
  try dsimp only
  iapply (runs_bind c)
  iapply (part2_run m K out hout c v3) $$ [HO p0 l1 l2 e0 o1 n1 t0]
  · isplitr; · iexact He
    iframe
  iintro ⟨HO, p0, p1, p2, zl1, zl2, g0⟩
  try dsimp only
  iapply (runs_bind c)
  iapply (part3_run m K out hout c v3 v4) $$ [HO l3 e2 o3 t1 g0]
  · isplitr; · iexact He
    iframe
  iintro ⟨HO, p3, zl3, g1, e0, zs0⟩
  try dsimp only
  iapply (runs_bind c)
  iapply (part4_run m K out hout c v4) $$ [HO v0 e4 o5 t2]
  · isplitr; · iexact He
    iframe
  iintro ⟨HO, o1, n1, zv0, g2⟩
  try dsimp only
  iapply (runs_bind c)
  iapply (part5_run m K out hout c v3 v4) $$ [HO g1 v1 e6 o7 t3]
  · isplitr; · iexact He
    iframe
  iintro ⟨HO, e2, zs1, o3, zv1, g3⟩
  try dsimp only
  iapply (runs_bind c)
  iapply (part6_run m K out hout c v4) $$ [HO l4 g2 v2]
  · isplitr; · iexact He
    iframe
  iintro ⟨HO, p4, zl4, e4, zs2, o5, zv2⟩
  try dsimp only
  iapply (runs_bind c)
  iapply (part7_run m K out hout c v3) $$ [HO g3 v3 e8]
  · isplitr; · iexact He
    iframe
  iintro ⟨HO, e6, zs3, o7, zv3, e8⟩
  try dsimp only
  iapply (runs_bind c)
  iapply (part8_run m K out hout c v3 v4) $$ [HO e8 o9 t4 e10 o11 t5 l5]
  · isplitr; · iexact He
    iframe
  iintro ⟨HO, g4, g5, p5, zl5⟩
  try dsimp only
  iapply (runs_bind c)
  iapply (part9_run m K out hout c v3 v4) $$ [HO g4 v4 e12]
  · isplitr; · iexact He
    iframe
  iintro ⟨HO, e8, zs4, o9, zv4, e12⟩
  try dsimp only
  iapply (runs_bind c)
  iapply (part10_run m K out hout c v4) $$ [HO e12 o13 t6 g5 v5 e14]
  · isplitr; · iexact He
    iframe
  iintro ⟨HO, g6, e10, zs5, o11, zv5, e14⟩
  try dsimp only
  iapply (runs_bind c)
  iapply (part11_run m K out hout c v3 v4) $$ [HO e14 o15 t7 l6 g6 v6]
  · isplitr; · iexact He
    iframe
  iintro ⟨HO, g7, p6, zl6, e12, zs6, o13, zv6⟩
  try dsimp only
  iapply (runs_bind c)
  iapply (part12_run m K out hout c v3) $$ [HO o13 g7 v7]
  · isplitr; · iexact He
    iframe
  iintro ⟨HO, o13, e14, zs7, o15, zv7⟩
  try dsimp only
  iapply (runs_bind c)
  iapply (part13_run m K out hout c v2) $$ [HO Hh q2 n1 t9 q1]
  · isplitr; · iexact He
    iframe
  iintro %v344 %v364 ⟨HO, Hh, g9, q1⟩
  try dsimp only
  iapply (runs_bind c)
  iapply (part14_run m K out hout c v2 v364) $$ [HO q1 n2 t8 Hh q3 n0 t10]
  · isplitr; · iexact He
    iframe
  iintro %v384 ⟨HO, g8, Hh, g10⟩
  try dsimp only
  iapply (runs_bind c)
  iapply (part15_run m K out hout c v344 v364) $$ [HO Hh g9 v9 g8]
  · isplitr; · iexact He
    iframe
  iintro ⟨HO, Hh, q2, zs9, n1, zv9, q1, zs8⟩
  try dsimp only
  iapply (wp_doneRs m K c (vq 10) rfl (owed c 0) (mayWait_owed c 0 _ (by decide)) (rsVal c 2 (rv m 1 (shift 3 c))) (BI.Entails.refl _) rfl) $$ [HO v10]
  · isplitr; · iexact He
    iframe
  iintro ⟨HO, n2, zv10⟩
  iapply (wp_doneRow m K c (sq 10) rfl (owed c 0) (mayWait_owed c 0 _ (by decide)) (rowVal c 3 (rv m 3 c)) (BI.Entails.refl _) rfl) $$ [HO g10]
  · isplitr; · iexact He
    iframe
  iintro ⟨HO, q3, zs10⟩
  iapply (wp_doneRs m K c (vq 8) rfl (owed c 0) (mayWait_owed c 0 _ (by decide)) (rsVal c 0 (rv m 3 (shift 1 c))) (BI.Entails.refl _) rfl) $$ [HO v8]
  · isplitr; · iexact He
    iframe
  iintro ⟨HO, n0, zv8⟩
  iapply (wp_rsLoad c 0 _ (rv m 3 (shift 1 c))) $$ n0
  iintro n0
  iapply (wp_rsLoad c 1 _ (rv m 2 (shift 2 c))) $$ n1
  iintro n1
  iapply (runs_ret c (k0_pay35 (k0_pay34 (k0_pay26 (wo2 m c)) (hRow m 0 c)) (tileOf (rv m 3 (shift 1 c))) (tileOf (rv m 2 (shift 2 c)))))
  iapply Hk
  unfold ripe shuts
  iframe

/-- What is held at the end, its contents forgotten. -/
theorem ripe_leftover : ripe m c ⊢ iprop(owesE c (owed c 0) ∗ leftover m c) := by
  unfold ripe leftover ownEven ownOdd ownRows
  iintro ⟨HO, Hb, Hp, ⟨s0, s1, s2, s3, s4, s5, s6, s7, s8, s9, s10, s11, s12, s13, s14, s15⟩, n0, n1, n2, Hh, q1, q2, q3, Hz⟩
  ihave Hp := (loads_back m c) $$ Hp
  icases Hp with ⟨Ha, Hc⟩
  ihave s0 := (slotVal_any c 0 (sv m 0 c)) $$ s0
  ihave s1 := (slotVal_any c 1 (sv m 0 (pA c))) $$ s1
  ihave s2 := (slotVal_any c 2 (sv m 1 c)) $$ s2
  ihave s3 := (slotVal_any c 3 (sv m 1 (pB c))) $$ s3
  ihave s4 := (slotVal_any c 4 (sv m 2 c)) $$ s4
  ihave s5 := (slotVal_any c 5 (sv m 2 (pB c))) $$ s5
  ihave s6 := (slotVal_any c 6 (sv m 3 c)) $$ s6
  ihave s7 := (slotVal_any c 7 (sv m 3 (pA c))) $$ s7
  ihave s8 := (slotVal_any c 8 (sv m 4 c)) $$ s8
  ihave s9 := (slotVal_any c 9 (sv m 4 (pA c))) $$ s9
  ihave s10 := (slotVal_any c 10 (sv m 5 c)) $$ s10
  ihave s11 := (slotVal_any c 11 (sv m 5 (pB c))) $$ s11
  ihave s12 := (slotVal_any c 12 (sv m 6 c)) $$ s12
  ihave s13 := (slotVal_any c 13 (sv m 6 (pB c))) $$ s13
  ihave s14 := (slotVal_any c 14 (sv m 7 c)) $$ s14
  ihave s15 := (slotVal_any c 15 (sv m 7 (pA c))) $$ s15
  ihave n0 := (rsVal_any c 0 _) $$ n0
  ihave n1 := (rsVal_any c 1 _) $$ n1
  ihave n2 := (rsVal_any c 2 _) $$ n2
  ihave q1 := (rowVal_any c 1 _) $$ q1
  ihave q2 := (rowVal_any c 2 _) $$ q2
  ihave q3 := (rowVal_any c 3 _) $$ q3
  ihave Hh := (bufPts_any c cc0_scratch9 (hAt m c)) $$ Hh
  iframe

set_option maxHeartbeats 1000000 in
/-- The whole body: the result written, everything else given back. -/
theorem body_run (t : Fin cfg0.N) (Kt : PUnit → sProp 𝕄) :
    iprop(env m K ∗ owesE c (O₀ c) ∗ kit m c ∗ bufAny (F := F) c cc0_stg0_0)
      ⊢ iprop(((owesE c (owed c 0) ∗ leftover m c ∗ bufPts c cc0_stg0_0 (outAt m c)) -∗ Kt ⟨⟩)
          -∗ runs c (bodyAt0 (F := F) t) Kt) := by
  unfold bodyAt0 cc0_body
  iintro ⟨#He, HO, Hkit, Hout⟩ Hk
  iapply (runs_bind c)
  iapply (part16_run m K c (Memref.whole cc0_stg0_0) (Memref.isWhole_whole _)) $$ [HO Hkit]
  · isplitr; · iexact He
    iframe
  iintro Hr
  unfold ripe
  icases Hr with ⟨HO, Hb, Hp, Hs, n0, n1, n2, Hrest⟩
  simp only [Prog.lift, Prog.bind_op, Prog.bind_ret, Prog.pure_eq_ret]
  iapply (wp_rsLoad c 2 _ (rv m 1 (shift 3 c))) $$ n2
  iintro n2
  unfold bufAny
  icases Hout with ⟨%fo, Hout⟩
  iapply (wp_peek c (mm := Memref.whole cc0_stg0_0) (r := (Rect.unit (s := S64x256) ![0, 0] S64x256.size inb_S64x256_S64x256_0_0).toLoadRect) (S := Finset.univ) (f := fo) (bufPts c cc0_stg0_0 fo) _ rfl (Finset.subset_univ _) rfl) $$ Hout
  iintro Hout
  iapply (wp_poke c (mm := Memref.whole cc0_stg0_0) (r := Rect.unit (s := S64x256) ![0, 0] S64x256.size inb_S64x256_S64x256_0_0) (w := outAt m c) (S := Finset.univ) (f := fo) (bufPts c cc0_stg0_0 fo) (bufPts c cc0_stg0_0 (outAt m c)) rfl (Finset.subset_univ _)
    (congrArg (bufPts c cc0_stg0_0) (Memref.write_access_unit_zero_univ (Elt F) cc0_stg0_0 off_zero _ fo (outAt m c)))) $$ Hout
  iintro Hout
  iapply (runs_ret c PUnit.unit)
  iapply Hk
  ihave Hr := (ripe_leftover m c) $$ [HO Hb Hp Hs n0 n1 n2 Hrest]
  · unfold ripe
    iframe
  icases Hr with ⟨HO, Hl⟩
  iframe

end Body

end Cert.Tower

end
-- ==== Proof.Deal.lean ====
/-
# The deal at launch

The cells' ghost state as minted, and how it is dealt: each device keeps its own cells' positions and gets the tokens of
the duties it pays.
-/
module

public import proofs.«01_k».proof.Proof.Body

@[expose] public section

noncomputable section

namespace Cert.Tower

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The kernel's own semaphores: every transfer semaphore but the staging one. -/
abbrev osem (k : Fin 30) : SemLoc sig := .dma k.succ

theorem ownSemFacts : Pipeline.OwnSemFacts cfg0.spec osem := by decide

theorem csem_injective : Function.Injective csem := by decide

theorem kcell_injective : Function.Injective kcell := by
  rintro ⟨c, k⟩ ⟨d, l⟩ h
  obtain rfl : c = d := congrArg (fun g : GSem nD τ sig => g.1.1) h
  obtain rfl : k = l := csem_injective (congrArg Prod.snd h)
  rfl

def allCells : Finset (GSem nD τ sig) := Finset.univ.map ⟨kcell, kcell_injective⟩

/-- The duty of index `n`: the two of the barrier cell at the ends, a transfer cell's one duty between. -/
def dutyOf (n : Fin 31) : SemLoc sig × ℕ × Bool := if n = 0 then (.reg barS, 0, true) else if n = 30 then (.reg barS, 0, false) else (.dma n, 0, false)
def tokOf (cn : Dev nD × Fin 31) : GSem nD τ sig × ℕ × Bool := (((cn.1 : Thread nD τ), (dutyOf cn.2).1), (dutyOf cn.2).2)

theorem dutyOf_injective : Function.Injective dutyOf := by decide

theorem tokOf_injective : Function.Injective tokOf := by
  rintro ⟨c, k⟩ ⟨d, l⟩ h
  obtain rfl : c = d := congrArg (fun g : GSem nD τ sig × ℕ × Bool => g.1.1.1) h
  obtain rfl : k = l := dutyOf_injective (Prod.ext (congrArg (fun g : GSem nD τ sig × ℕ × Bool => g.1.2) h) (congrArg (fun g : GSem nD τ sig × ℕ × Bool => g.2) h))
  rfl

def allToks : Finset (GSem nD τ sig × ℕ × Bool) := Finset.univ.map ⟨tokOf, tokOf_injective⟩

/-- The launch element: the pipeline's cells and the kernel's. -/
def u₀ : UU := (initOf (Pipeline.cells cfgs cellOf_inj) (Pipeline.launchToks cfgs cellOf_inj), initOf allCells allToks)

/-- The token of duty `n` of device `c`. -/
def tok (cn : Dev nD × Fin 31) : sProp 𝕄 := dutyTok ER (tokOf cn).1 (tokOf cn).2.1 (tokOf cn).2.2
/-- Device `c`'s position at its cell `k`. -/
def pos (ck : Dev nD × Fin 31) : sProp 𝕄 := atPos ER (kcell ck) 0 ∅ 0

/-- What each device is dealt first, … -/
def G (c : Dev nD) : sProp 𝕄 :=
  iprop((bigSep Finset.univ fun k : Fin 31 => roundState ER (Rd m) (kcell (c, k)) 0)
    ∗ (bigSep Finset.univ fun k : Fin 31 => iprop(pos (F := F) (c, k) ∗ reached ER (kcell (c, k)) 0)) ∗ bigSep Finset.univ fun n : Fin 31 => tok (F := F) (c, n))

theorem fund : BI.own (ER (initOf allCells allToks)) ⊢ (|==> bigSep Finset.univ (G m) : sProp 𝕄) := by
  have hC (Φ : GSem nD τ sig → sProp 𝕄) : bigSep allCells Φ = bigSep Finset.univ fun c : Dev nD => bigSep Finset.univ fun k : Fin 31 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => bigSep Finset.univ fun n : Fin 31 => tok (F := F) (c, n) := by
    unfold allToks; rw [bigSep_map, bigSep_univ_prod]; rfl
  iintro H
  imod (Rounds.fund ER (Rd m) allCells allToks) $$ H with ⟨Hs, Hr, Hp, Ht⟩
  imodintro
  ihave Hs := (Entails.of_eq (hC fun g => roundState ER (Rd m) g 0)) $$ Hs
  ihave Hp := (Entails.of_eq (hC fun g => atPos ER g 0 ∅ 0)) $$ Hp
  ihave Hr := (Entails.of_eq (hC fun g => reached ER g 0)) $$ Hr
  ihave Ht := (Entails.of_eq hT) $$ Ht
  unfold G; simp only [bigSep_sep']
  isplitl [Hs]; · iexact Hs
  isplitl [Hp Hr]
  · isplitl [Hp]; · iexact Hp
    iexact Hr
  iexact Ht

omit [FloatOps F] in
/-- A family over the cells of one device, listed. -/
theorem over_cells (Φ : Fin 31 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30) :=
  bigSep_univ_eq_bigSepL [0, 1, 2, 3, 4, 5, 6, 7, 8, 9, 10, 11, 12, 13, 14, 15, 16, 17, 18, 19, 20, 21, 22, 23, 24, 25, 26, 27, 28, 29, 30] (by decide) (by decide) Φ

omit [FloatOps F] in
/-- The kernel's own semaphores and the barrier's are the cells' counters. -/
theorem counters (c : Dev nD) :
    iprop(Pipeline.ownSems0 (Ix := Unit) (Name := ℕ) (U := UU) (Lvl := ℕ) (Val := Elt F) (τ := τ) osem c ∗ unscopedSems0 c)
      = iprop((shut (F := F) c (sq 0) ∗ shut (F := F) c (sq 1) ∗ shut (F := F) c (sq 2) ∗ shut (F := F) c (sq 3) ∗ shut (F := F) c (sq 4) ∗ shut (F := F) c (sq 5) ∗ shut (F := F) c (sq 6) ∗ shut (F := F) c (sq 7) ∗ shut (F := F) c (sq 8) ∗ shut (F := F) c (sq 9) ∗ shut (F := F) c (sq 10) ∗ shut (F := F) c (vq 0) ∗ shut (F := F) c (vq 1) ∗ shut (F := F) c (vq 2) ∗ shut (F := F) c (vq 3) ∗ shut (F := F) c (vq 4) ∗ shut (F := F) c (vq 5) ∗ shut (F := F) c (vq 6) ∗ shut (F := F) c (vq 7) ∗ shut (F := F) c (vq 8) ∗ shut (F := F) c (vq 9) ∗ shut (F := F) c (vq 10) ∗ shut (F := F) c (lq 0) ∗ shut (F := F) c (lq 1) ∗ shut (F := F) c (lq 2) ∗ shut (F := F) c (lq 3) ∗ shut (F := F) c (lq 4) ∗ shut (F := F) c (lq 5) ∗ shut (F := F) c (lq 6) ∗ shut (F := F) c 30) ∗ semVal (barCell c) 0) := by
  rw [Pipeline.ownSems0_eq_of_list c osem [0, 1, 2, 3, 4, 5, 6, 7, 8, 9, 10, 11, 12, 13, 14, 15, 16, 17, 18, 19, 20, 21, 22, 23, 24, 25, 26, 27, 28, 29] (by decide) (by decide)]
  unfold unscopedSems0
  rw [bigSep_eq_bigSepL_of_eq [SemLoc.reg barS] (by decide) (by decide)]; rfl

omit [FloatOps F] in
theorem counters_cells (c : Dev nD) :
    iprop(Pipeline.ownSems0 (Ix := Unit) (Name := ℕ) (U := UU) (Lvl := ℕ) (Val := Elt F) (τ := τ) osem c ∗ unscopedSems0 c)
      ⊢ (bigSep Finset.univ fun k : Fin 31 => semVal (kcell (c, k)) 0 : sProp 𝕄) := by
  rw [counters, over_cells]
  exact sep_comm.1.trans (Entails.of_eq rfl)

/-- One device's cells opened: each counter and round state becomes a cell's invariant. -/
theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 31 => iprop(∃ κ : ℕ, cellInv ER (Rd m) κ (kcell (c, k))))
          ∗ (bigSep Finset.univ fun k : Fin 31 => iprop(pos (F := F) (c, k) ∗ reached ER (kcell (c, k)) 0)) ∗ bigSep Finset.univ fun n : Fin 31 => tok (F := F) (c, n)) := by
  have h : iprop((bigSep Finset.univ fun k : Fin 31 => semVal (kcell (c, k)) 0) ∗ bigSep Finset.univ fun k : Fin 31 => roundState ER (Rd m) (kcell (c, k)) 0)
      ⊢ (|={Set.univ}=> bigSep Finset.univ fun k : Fin 31 => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Ho, Hu, Hs, Hp, Ht⟩
  ihave Hv := (counters_cells (F := F) c) $$ [Ho Hu]
  · isplitl [Ho] <;> iassumption
  imod (h) $$ [Hv Hs] with Hi
  · isplitl [Hv] <;> iassumption
  imodintro
  isplitl [Hi]; · iexact Hi
  isplitl [Hp]; · iexact Hp
  iexact Ht

/-! ## Who pays what -/

/-- The device whose duty `n` device `c` pays. -/
def payee (n : Fin 31) (c : Dev nD) : Dev nD :=
  if n = 0 then pA c else if n = 30 then pB c else if 12 ≤ n.val ∧ n.val < 23 then tgt (rcvOf (n.val - 12)) c else c
/-- The device that pays duty `n` of device `c`. -/
def payer (n : Fin 31) (c : Dev nD) : Dev nD :=
  if 20 ≤ n.val ∧ n.val < 23 then shift (n.val - 19) c else payee n c

/-- Paying and being paid are inverse. -/
def around : Dev nD × Fin 31 ≃ Dev nD × Fin 31 where
  toFun x := (payee x.2 x.1, x.2)
  invFun x := (payer x.2 x.1, x.2)
  left_inv := by
    have h : ∀ n : Fin 31, ∀ c : Dev nD, payer n (payee n c) = c := by decide
    exact fun x => Prod.ext (h x.2 x.1) rfl
  right_inv := by
    have h : ∀ n : Fin 31, ∀ c : Dev nD, payee n (payer n c) = c := by decide
    exact fun x => Prod.ext (h x.2 x.1) rfl

omit [FloatOps F] in
/-- The tokens dealt to those who pay. -/
theorem toks_around : (bigSep Finset.univ fun c : Dev nD => bigSep Finset.univ fun n : Fin 31 => tok (F := F) (c, n))
    = bigSep Finset.univ fun c : Dev nD => bigSep Finset.univ fun n : Fin 31 => tok (F := F) (payee n c, n) := by
  rw [← bigSep_univ_prod (fun x : Dev nD × Fin 31 => tok (F := F) x), bigSep_univ_equiv around, ← bigSep_univ_prod (fun x : Dev nD × Fin 31 => tok (F := F) (payee x.2 x.1, x.2))]
  rfl

/-- What device `c` holds of the ghost state: its positions and the tokens of what it pays; -/
def linear (c : Dev nD) : sProp 𝕄 :=
  iprop((bigSep Finset.univ fun k : Fin 31 => pos (F := F) (c, k)) ∗ bigSep Finset.univ fun n : Fin 31 => tok (F := F) (payee n c, n))
/-- … with the records. -/
def G' (c : Dev nD) : sProp 𝕄 := iprop(∃ K, recs m K ∗ linear (F := F) c)

omit [FloatOps F] in
theorem share_out {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem regroup :
    (bigSep Finset.univ fun c : Dev nD => iprop((bigSep Finset.univ fun k : Fin 31 => iprop(∃ κ : ℕ, cellInv ER (Rd m) κ (kcell (c, k))))
          ∗ (bigSep Finset.univ fun k : Fin 31 => iprop(pos (F := F) (c, k) ∗ reached ER (kcell (c, k)) 0)) ∗ bigSep Finset.univ fun n : Fin 31 => tok (F := F) (c, n)) : sProp 𝕄)
      ⊢ bigSep Finset.univ (G' m) := by
  rw [bigSep_sep', bigSep_sep', toks_around, ← bigSep_univ_prod (fun ck : Dev nD × Fin 31 => iprop(∃ κ : ℕ, cellInv ER (Rd m) κ (kcell ck))),
    bigSep_congr (s := Finset.univ) (fun (c : Dev nD) _ => bigSep_sep' Finset.univ (fun k : Fin 31 => pos (F := F) (c, k)) (fun k => reached ER (kcell (c, k)) 0)),
    bigSep_sep', ← bigSep_univ_prod (fun ck : Dev nD × Fin 31 => (reached ER (kcell ck) 0 : sProp 𝕄))]
  iintro ⟨Hi, ⟨Hp, Hr⟩, Ht⟩
  ihave HK := (BI.bigSep_exists_pi Finset.univ (fun (ck : Dev nD × Fin 31) (κ : ℕ) => (cellInv ER (Rd m) κ (kcell ck) : sProp 𝕄))) $$ Hi
  icases HK with ⟨%K, HI⟩
  iapply (share_out (R := recs m K) (Φ := fun c => linear (F := F) c) fun c => by
    unfold G'; iintro H; iexists K; iexact H)
  isplitl [HI Hr]
  · unfold recs; rw [bigSep_sep']
    isplitl [HI] <;> iassumption
  · unfold linear; rw [bigSep_sep']
    isplitl [Hp] <;> iassumption

/-- The global step: every device's counters and ghost state become the records and each device's holdings. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_cells m c).trans (bigSep_fupd _ _)).trans (BI.fupd_mono (regroup m))

omit [FloatOps F] in
/-- A device's positions, listed by what they are for; -/
theorem positions (c : Dev nD) : (bigSep Finset.univ fun k : Fin 31 => pos (F := F) (c, k)) = iprop(atPos ER (barCell c) 0 ∅ 0 ∗ seat (F := F) c (sq 0) ∗ seat (F := F) c (sq 1) ∗ seat (F := F) c (sq 2) ∗ seat (F := F) c (sq 3) ∗ seat (F := F) c (sq 4) ∗ seat (F := F) c (sq 5) ∗ seat (F := F) c (sq 6) ∗ seat (F := F) c (sq 7) ∗ seat (F := F) c (sq 8) ∗ seat (F := F) c (sq 9) ∗ seat (F := F) c (sq 10) ∗ seat (F := F) c (vq 0) ∗ seat (F := F) c (vq 1) ∗ seat (F := F) c (vq 2) ∗ seat (F := F) c (vq 3) ∗ seat (F := F) c (vq 4) ∗ seat (F := F) c (vq 5) ∗ seat (F := F) c (vq 6) ∗ seat (F := F) c (vq 7) ∗ seat (F := F) c (vq 8) ∗ seat (F := F) c (vq 9) ∗ seat (F := F) c (vq 10) ∗ seat (F := F) c (lq 0) ∗ seat (F := F) c (lq 1) ∗ seat (F := F) c (lq 2) ∗ seat (F := F) c (lq 3) ∗ seat (F := F) c (lq 4) ∗ seat (F := F) c (lq 5) ∗ seat (F := F) c (lq 6) ∗ seat (F := F) c 30) := by
  rw [over_cells]; rfl

omit [FloatOps F] in
/-- the tokens it pays with, likewise. -/
theorem payments (c : Dev nD) : (bigSep Finset.univ fun n : Fin 31 => tok (F := F) (payee n c, n)) = iprop(dutyTok ER (barCell (pA c)) 0 true ∗ dutyTok ER (dcell c (sq 0)) 0 false ∗ dutyTok ER (dcell c (sq 1)) 0 false ∗ dutyTok ER (dcell c (sq 2)) 0 false ∗ dutyTok ER (dcell c (sq 3)) 0 false ∗ dutyTok ER (dcell c (sq 4)) 0 false ∗ dutyTok ER (dcell c (sq 5)) 0 false ∗ dutyTok ER (dcell c (sq 6)) 0 false ∗ dutyTok ER (dcell c (sq 7)) 0 false ∗ dutyTok ER (dcell c (sq 8)) 0 false ∗ dutyTok ER (dcell c (sq 9)) 0 false ∗ dutyTok ER (dcell c (sq 10)) 0 false ∗ dutyTok ER (dcell (tgt 0 c) (rq 0)) 0 false ∗ dutyTok ER (dcell (tgt 1 c) (rq 1)) 0 false ∗ dutyTok ER (dcell (tgt 2 c) (rq 2)) 0 false ∗ dutyTok ER (dcell (tgt 3 c) (rq 3)) 0 false ∗ dutyTok ER (dcell (tgt 4 c) (rq 4)) 0 false ∗ dutyTok ER (dcell (tgt 5 c) (rq 5)) 0 false ∗ dutyTok ER (dcell (tgt 6 c) (rq 6)) 0 false ∗ dutyTok ER (dcell (tgt 7 c) (rq 7)) 0 false ∗ dutyTok ER (dcell (tgt 10 c) (rq 10)) 0 false ∗ dutyTok ER (dcell (tgt 9 c) (rq 9)) 0 false ∗ dutyTok ER (dcell (tgt 8 c) (rq 8)) 0 false ∗ dutyTok ER (dcell c (lq 0)) 0 false ∗ dutyTok ER (dcell c (lq 1)) 0 false ∗ dutyTok ER (dcell c (lq 2)) 0 false ∗ dutyTok ER (dcell c (lq 3)) 0 false ∗ dutyTok ER (dcell c (lq 4)) 0 false ∗ dutyTok ER (dcell c (lq 5)) 0 false ∗ dutyTok ER (dcell c (lq 6)) 0 false ∗ dutyTok ER (barCell (pB c)) 0 false) := by
  rw [over_cells]; rfl

end Cert.Tower

end
-- ==== Proof.Pieces.lean ====
/-
# Buffers in pieces, and the credit at launch

The tile buffer as its slots, the row buffer as its slots, the partial as its row blocks, apart and together again; and
what a device's cells are credited with at launch.
-/
module

public import proofs.«01_k».proof.Proof.Deal

@[expose] public section

noncomputable section

namespace Cert.Tower

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
theorem some_contents {ℓ : Loc nD τ sig} (S : Finset (Idx ℓ)) (f : Buf (Elt F) ℓ) :
    (ℓ ↦[S]{fullShare} f : sProp 𝕄) ⊢ iprop(∃ f : Buf (Elt F) ℓ, ℓ ↦[S]{fullShare} f) := by
  iintro H; iexists f; iexact H

omit [FloatOps F] in
/-- A buffer is held in pieces; -/
theorem apart {ℓ : Loc nD τ sig} {n : ℕ} (K : Fin n → Finset (Idx ℓ)) (hu : Finset.univ.biUnion K = Finset.univ) (hd : ∀ i j, i ≠ j → Disjoint (K i) (K j)) :
    (iprop(∃ f : Buf (Elt F) ℓ, ℓ ↦{fullShare} f) : sProp 𝕄) ⊢ bigSep Finset.univ fun k => iprop(∃ f : Buf (Elt F) ℓ, ℓ ↦[K k]{fullShare} f) := by
  iintro ⟨%f, H⟩
  have h : (ℓ ↦[Finset.univ.biUnion K]{fullShare} f : sProp 𝕄) = bigSep Finset.univ fun k => ℓ ↦[K k]{fullShare} f :=
    pointsTo_biUnion Finset.univ K (fun i _ j _ => hd i j)
  rw [hu] at h
  ihave H := (Entails.of_eq h) $$ H
  have hm : (bigSep Finset.univ fun k => ℓ ↦[K k]{fullShare} f : sProp 𝕄) ⊢ bigSep Finset.univ fun k => iprop(∃ f : Buf (Elt F) ℓ, ℓ ↦[K k]{fullShare} f) :=
    bigSep_mono fun k _ => some_contents (K k) f
  iapply (hm)
  iexact H

/-- the pieces make the buffer. -/
theorem together {ℓ : Loc nD τ sig} {n : ℕ} (K : Fin n → Finset (Idx ℓ)) (hu : Finset.univ.biUnion K = Finset.univ) (hd : ∀ i j, i ≠ j → Disjoint (K i) (K j)) :
    (bigSep Finset.univ fun k => iprop(∃ f : Buf (Elt F) ℓ, ℓ ↦[K k]{fullShare} f)) ⊢ (iprop(∃ f : Buf (Elt F) ℓ, ℓ ↦{fullShare} f) : sProp 𝕄) := by
  haveI : Nonempty (Buf (Elt F) ℓ) := ⟨fun _ => Classical.arbitrary _⟩
  iintro H
  ihave H := (BI.bigSep_exists_pi Finset.univ (fun k (f : Buf (Elt F) ℓ) => (ℓ ↦[K k]{fullShare} f : sProp 𝕄))) $$ H
  icases H with ⟨%fs, H⟩
  ihave H := (pointsTo_biUnion_join (ℓ := ℓ) (q := fullShare) Finset.univ K fs (Classical.arbitrary _) (fun i _ j _ => hd i j)) $$ H
  icases H with ⟨%g, %hg, H⟩
  rw [hu]
  iexists g; iexact H

section Pieces
variable (c : Dev nD)

/-- All the slots of the tile buffer, … -/
def tiles : sProp 𝕄 := iprop(slotAny (F := F) c 0 ∗ slotAny (F := F) c 1 ∗ slotAny (F := F) c 2 ∗ slotAny (F := F) c 3 ∗ slotAny (F := F) c 4 ∗ slotAny (F := F) c 5 ∗ slotAny (F := F) c 6 ∗ slotAny (F := F) c 7 ∗ slotAny (F := F) c 8 ∗ slotAny (F := F) c 9 ∗ slotAny (F := F) c 10 ∗ slotAny (F := F) c 11 ∗ slotAny (F := F) c 12 ∗ slotAny (F := F) c 13 ∗ slotAny (F := F) c 14 ∗ slotAny (F := F) c 15)
/-- … of the row buffer, … -/
def rows : sProp 𝕄 := iprop(rsAny (F := F) c 0 ∗ rsAny (F := F) c 1 ∗ rsAny (F := F) c 2)
/-- … and all row blocks of the partial. -/
def partials : sProp 𝕄 := iprop(rowAny (F := F) c 0 ∗ rowAny (F := F) c 1 ∗ rowAny (F := F) c 2 ∗ rowAny (F := F) c 3)

omit [FloatOps F] in
theorem tiles_eq : tiles (F := F) c = bigSep Finset.univ fun k : Fin 16 => slotAny (F := F) c k.val :=
  (bigSep_univ_eq_bigSepL [0, 1, 2, 3, 4, 5, 6, 7, 8, 9, 10, 11, 12, 13, 14, 15] (by decide) (by decide) (fun k : Fin 16 => slotAny (F := F) c k.val)).symm
omit [FloatOps F] in
theorem rows_eq : rows (F := F) c = bigSep Finset.univ fun k : Fin 3 => rsAny (F := F) c k.val :=
  (bigSep_univ_eq_bigSepL [0, 1, 2] (by decide) (by decide) (fun k : Fin 3 => rsAny (F := F) c k.val)).symm

/-- The row blocks counted from the device's own. -/
def fromOwn : Fin 4 ≃ Fin 4 where
  toFun i := shift i.val c
  invFun t := ⟨(t.val + 4 - c.val) % 4, Nat.mod_lt _ (by decide)⟩
  left_inv := by revert c; decide
  right_inv := by revert c; decide

omit [FloatOps F] in
theorem partials_eq : partials (F := F) c
    = bigSep Finset.univ fun t : Fin 4 => iprop(∃ f : Buf (Elt F) ((c : Thread nD τ).loc cc0_scratch8), ((c : Thread nD τ).loc cc0_scratch8) ↦[rowSet t.val]{fullShare} f) := by
  rw [bigSep_univ_equiv (fromOwn c)]
  exact (bigSep_univ_eq_bigSepL [0, 1, 2, 3] (by decide) (by decide) (fun k : Fin 4 => rowAny (F := F) c k.val)).symm

omit [FloatOps F] in
theorem tiles_of : bufAny (F := F) c cc0_scratch7 ⊢ tiles (F := F) c := by
  rw [tiles_eq]; exact apart (ℓ := (c : Thread nD τ).loc cc0_scratch7) (fun k : Fin 16 => pageSet (n := 16) (a := 256) (b := 128) k.val) pages_union (fun i j h => pages_disjoint fun h' => h (Fin.ext h'))
theorem of_tiles : tiles (F := F) c ⊢ bufAny (F := F) c cc0_scratch7 := by
  rw [tiles_eq]; exact together (ℓ := (c : Thread nD τ).loc cc0_scratch7) (fun k : Fin 16 => pageSet (n := 16) (a := 256) (b := 128) k.val) pages_union (fun i j h => pages_disjoint fun h' => h (Fin.ext h'))
omit [FloatOps F] in
theorem rows_of : bufAny (F := F) c cc0_scratch10 ⊢ rows (F := F) c := by
  rw [rows_eq]; exact apart (ℓ := (c : Thread nD τ).loc cc0_scratch10) (fun k : Fin 3 => pageSet (n := 3) (a := 64) (b := 256) k.val) pages_union (fun i j h => pages_disjoint fun h' => h (Fin.ext h'))
theorem of_rows : rows (F := F) c ⊢ bufAny (F := F) c cc0_scratch10 := by
  rw [rows_eq]; exact together (ℓ := (c : Thread nD τ).loc cc0_scratch10) (fun k : Fin 3 => pageSet (n := 3) (a := 64) (b := 256) k.val) pages_union (fun i j h => pages_disjoint fun h' => h (Fin.ext h'))
omit [FloatOps F] in
theorem partials_of : bufAny (F := F) c cc0_scratch8 ⊢ partials (F := F) c := by
  rw [partials_eq]; exact apart (ℓ := (c : Thread nD τ).loc cc0_scratch8) (fun t : Fin 4 => rowSet t.val) rows_union (fun i j h => rows_disjoint fun h' => h (Fin.ext h'))
theorem of_partials : partials (F := F) c ⊢ bufAny (F := F) c cc0_scratch8 := by
  rw [partials_eq]; exact together (ℓ := (c : Thread nD τ).loc cc0_scratch8) (fun t : Fin 4 => rowSet t.val) rows_union (fun i j h => rows_disjoint fun h' => h (Fin.ext h'))

end Pieces

/-! ## The credit at launch -/

/-- What a device owes a transfer cell, counted. -/
theorem owed_count (d c : Dev nD) (q : Fin 31) (n : ℕ) :
    owed d n (dcell c q) () = creditN q.val * ∑ i ∈ Finset.range n, if c = tgt (ord (10 - i)) d ∧ q = rq (ord (10 - i)) then 1 else 0 := by
  induction n with
  | zero => rfl
  | succ n ih =>
    unfold owed
    rw [Pi.add_apply, Finsupp.add_apply, tallyAt_apply, ih, Finset.sum_range_succ, Nat.mul_add]
    congr 1
    by_cases h : c = tgt (ord (10 - n)) d ∧ q = rq (ord (10 - n))
    · rw [if_pos h, if_pos ⟨by rw [h.1, h.2], rfl⟩, Nat.mul_one, h.2]
    · rw [if_neg h, if_neg, Nat.mul_zero]
      rintro ⟨h', -⟩
      have h1 : c = tgt (ord (10 - n)) d := congrArg (fun g : GSem nD τ sig => g.1.1) h'
      have h2 : (SemLoc.dma q : SemLoc sig) = SemLoc.dma (rq (ord (10 - n))) := congrArg Prod.snd h'
      exact h ⟨h1, SemLoc.dma.inj h2⟩

theorem bar_inj {a b : Dev nD} (h : barCell a = barCell b) : a = b := congrArg (fun g : GSem nD τ sig => g.1.1) h

theorem owed_at_bar (d c : Dev nD) (n : ℕ) : owed d n (barCell c) () = 0 := by
  by_contra h
  obtain ⟨i, -, e, he⟩ := owed_pos (Nat.pos_of_ne_zero h)
  exact absurd (congrArg Prod.snd he) (fun h' => by cases h')

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  have h (d : Dev nD) : O₀ d (barCell c) () = (if c = pB d then 1 else 0) + if c = pA d then 1 else 0 := by
    unfold O₀ O₁
    rw [Pi.add_apply, Finsupp.add_apply, Pi.add_apply, Finsupp.add_apply, owed_at_bar, tallyAt_apply, tallyAt_apply, Nat.zero_add]
    have e (b : Dev nD) : (barCell c = barCell b ∧ () = ()) ↔ c = b := ⟨fun h => bar_inj h.1, fun h => ⟨by rw [h], rfl⟩⟩
    rw [if_congr (e (pB d)) rfl rfl, if_congr (e (pA d)) rfl rfl]
  rw [Pipeline.launchCredit_owing, Finsupp.single_eq_same, Finset.sum_congr rfl fun d _ => h d]
  clear h; revert c; decide

theorem count_vq : ∀ c : Dev nD, ∀ r : Fin 11, (∑ d : Dev nD, ∑ i ∈ Finset.range 11, if c = tgt (ord (10 - i)) d ∧ vq r.val = rq (ord (10 - i)) then 1 else 0) = 1 := by
  decide +kernel

theorem launch_arrival (c : Dev nD) (r : Fin 11) :
    tallyOn (dcell c (vq r.val)) (launchCredit (Pipeline.owing O₀) 0 (dcell c (vq r.val))) = (tallyAt (dcell c (vq r.val)) () (creditN (vq r.val).val) : CellTallies nD τ sig Unit) := by
  unfold tallyAt; refine congrArg _ (Finsupp.ext fun u => ?_); cases u
  have h (d : Dev nD) : O₀ d (dcell c (vq r.val)) () = creditN (vq r.val).val * ∑ i ∈ Finset.range 11, if c = tgt (ord (10 - i)) d ∧ vq r.val = rq (ord (10 - i)) then 1 else 0 := by
    unfold O₀ O₁
    rw [Pi.add_apply, Finsupp.add_apply, Pi.add_apply, Finsupp.add_apply, owed_count, tallyAt_apply, tallyAt_apply,
      if_neg (fun h => absurd (congrArg Prod.snd h.1) (fun h' => by cases h')), if_neg (fun h => absurd (congrArg Prod.snd h.1) (fun h' => by cases h'))]
    rfl
  rw [Pipeline.launchCredit_owing, Finsupp.single_eq_same, Finset.sum_congr rfl fun d _ => h d, ← Finset.mul_sum, count_vq, Nat.mul_one]

theorem arrival_inj : Function.Injective (fun r : Fin 11 => (SemLoc.dma (vq r.val) : SemLoc sig)) := by decide

omit [FloatOps F] in
/-- At launch a device's barrier cell is credited two units and each arrival's cell its transfer. -/
theorem credits (c : Dev nD) :
    (Pipeline.launchCred O₀ c : sProp 𝕄) ⊢ iprop(cred (tallyAt (barCell c) () 2) ∗ iprop(cred (tallyAt (dcell c (vq 0)) () (creditN (vq 0).val)) ∗ cred (tallyAt (dcell c (vq 1)) () (creditN (vq 1).val)) ∗ cred (tallyAt (dcell c (vq 2)) () (creditN (vq 2).val)) ∗ cred (tallyAt (dcell c (vq 3)) () (creditN (vq 3).val)) ∗ cred (tallyAt (dcell c (vq 4)) () (creditN (vq 4).val)) ∗ cred (tallyAt (dcell c (vq 5)) () (creditN (vq 5).val)) ∗ cred (tallyAt (dcell c (vq 6)) () (creditN (vq 6).val)) ∗ cred (tallyAt (dcell c (vq 7)) () (creditN (vq 7).val)) ∗ cred (tallyAt (dcell c (vq 8)) () (creditN (vq 8).val)) ∗ cred (tallyAt (dcell c (vq 9)) () (creditN (vq 9).val)) ∗ cred (tallyAt (dcell c (vq 10)) () (creditN (vq 10).val)))) := by
  unfold Pipeline.launchCred
  rw [bigSep_univ_at _ (SemLoc.reg barS), launch_bar]
  refine sep_mono_right ((BI.bigSep_subset (t := Finset.univ.map ⟨_, arrival_inj⟩) ?_).trans ?_)
  · refine fun s hs => ?_
    obtain ⟨r, hr⟩ := Finset.mem_map.mp hs
    rw [← hr.2]
    exact Finset.mem_erase.mpr ⟨fun h => (by cases h), Finset.mem_univ _⟩
  · rw [bigSep_map]
    refine (bigSep_mono (Ψ := fun r : Fin 11 => cred (tallyAt (dcell c (vq r.val)) () (creditN (vq r.val).val))) fun r _ => Entails.of_eq (congrArg cred (launch_arrival c r))).trans ?_
    rw [bigSep_univ_eq_bigSepL [0, 1, 2, 3, 4, 5, 6, 7, 8, 9, 10] (by decide) (by decide)]
    exact BI.Entails.refl _

end Cert.Tower

end
-- ==== Proof.Run.lean ====
/-
# The launch

From any memory with every counter at zero, the program on the four devices ends with each device's result as computed,
its arguments as they were and every counter at zero again.
-/
module

public import proofs.«01_k».proof.Proof.Pieces
public import proofs.«01_k».proof.Proof.Gen.KernelIdeal.Frame
public import Idealize.ShloMosaic.Lib.Pipeline.CollectiveSegs

@[expose] public section

noncomputable section

namespace Cert.Tower

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Device
variable (c : Dev nD)

/-- What of a device's holdings the launch's ghost state and credit give. -/
def hands : sProp 𝕄 := iprop(meetKit (F := F) c ∗ fetchKits (F := F) c ∗ sendKits (F := F) c ∗ arrivals (F := F) c ∗ seat (F := F) c 30)

omit [FloatOps F] in
theorem hands_of : iprop(Pipeline.launchCred O₀ c ∗ linear (F := F) c) ⊢ hands (F := F) c := by
  unfold linear
  rw [positions, payments]
  iintro ⟨Hc, ⟨pb, ps0, ps1, ps2, ps3, ps4, ps5, ps6, ps7, ps8, ps9, ps10, pv0, pv1, pv2, pv3, pv4, pv5, pv6, pv7, pv8, pv9, pv10, pl0, pl1, pl2, pl3, pl4, pl5, pl6, pz⟩, ⟨tb, ts0, ts1, ts2, ts3, ts4, ts5, ts6, ts7, ts8, ts9, ts10, tv0, tv1, tv2, tv3, tv4, tv5, tv6, tv7, tv10, tv9, tv8, tl0, tl1, tl2, tl3, tl4, tl5, tl6, tz⟩⟩
  ihave Hc := (credits (F := F) c) $$ Hc
  icases Hc with ⟨cb, cv0, cv1, cv2, cv3, cv4, cv5, cv6, cv7, cv8, cv9, cv10⟩
  unfold hands meetKit fetchKits fetchKit sendKits sendKit arrivals flight
  iframe

/-- The scoped buffers, as the body holds them. -/
def rooms : sProp 𝕄 :=
  iprop(copiesAny (F := F) c ∗ ownEven (F := F) c ∗ ownOdd (F := F) c ∗ bufAny (F := F) c cc0_scratch9 ∗ ownRows (F := F) c ∗ rowAny (F := F) c 0)

omit [FloatOps F] in
theorem rooms_of : (Pipeline.scopedRest cfg0.spec c : sProp 𝕄) ⊢ rooms (F := F) c := by
  rw [show (Pipeline.scopedRest cfg0.spec c : sProp 𝕄) = _ from scopedRest0_eq c]
  iintro ⟨b0, b1, b2, b3, b4, b5, b6, H7, H8, b9, H10⟩
  ihave H7 := (tiles_of (F := F) c) $$ [H7]
  · unfold bufAny bufPts; iexact H7
  ihave H8 := (partials_of (F := F) c) $$ [H8]
  · unfold bufAny bufPts; iexact H8
  ihave H10 := (rows_of (F := F) c) $$ [H10]
  · unfold bufAny bufPts; iexact H10
  unfold tiles partials rows
  icases H7 with ⟨k0, k1, k2, k3, k4, k5, k6, k7, k8, k9, k10, k11, k12, k13, k14, k15⟩
  icases H8 with ⟨q0, q1, q2, q3⟩
  icases H10 with ⟨n0, n1, n2⟩
  unfold rooms copiesAny ownEven ownOdd ownRows
  isplitl [b0 b1 b2 b3 b4 b5 b6]
  · unfold bufAny bufPts
    iframe
  isplitl [k0 k2 k4 k6 k8 k10 k12 k14]
  · iframe
  isplitl [k1 k3 k5 k7 k9 k11 k13 k15 n0 n1 n2]
  · iframe
  isplitl [b9]
  · unfold bufAny bufPts; iexact b9
  iframe

theorem of_rooms : rooms (F := F) c ⊢ (Pipeline.scopedRest cfg0.spec c : sProp 𝕄) := by
  rw [show (Pipeline.scopedRest cfg0.spec c : sProp 𝕄) = _ from scopedRest0_eq c]
  unfold rooms copiesAny ownEven ownOdd ownRows
  iintro ⟨⟨b0, b1, b2, b3, b4, b5, b6⟩, ⟨k0, k2, k4, k6, k8, k10, k12, k14⟩, ⟨k1, k3, k5, k7, k9, k11, k13, k15, n0, n1, n2⟩, b9, ⟨q1, q2, q3⟩, q0⟩
  ihave H7 := (of_tiles (F := F) c) $$ [k0 k1 k2 k3 k4 k5 k6 k7 k8 k9 k10 k11 k12 k13 k14 k15]
  · unfold tiles; iframe
  ihave H8 := (of_partials (F := F) c) $$ [q0 q1 q2 q3]
  · unfold partials; iframe
  ihave H10 := (of_rows (F := F) c) $$ [n0 n1 n2]
  · unfold rows; iframe
  unfold bufAny bufPts
  iframe

/-- The argument buffers. -/
def argRefs : Finset (Ref sig .tc) := [main_arg0, main_arg1, main_arg2, main_arg3, main_arg4, main_arg5, main_arg6].toFinset

/-- The arguments as launched, as one family. -/
def argsAll : sProp 𝕄 := bigSep argRefs fun b => ((c : Thread nD τ).loc b) ↦{fullShare} m ((c : Thread nD τ).loc b)

omit [FloatOps F] in
theorem argsAll_eq : argsAll m c = iprop(bufPts c main_arg0 (xAt m c) ∗ bufPts c main_arg1 (wi0 m c) ∗ bufPts c main_arg2 (wi1 m c) ∗ bufPts c main_arg3 (wi2 m c)
    ∗ bufPts c main_arg4 (wo0 m c) ∗ bufPts c main_arg5 (wo1 m c) ∗ bufPts c main_arg6 (wo2 m c)) :=
  bigSep_eq_bigSepL_of_eq [main_arg0, main_arg1, main_arg2, main_arg3, main_arg4, main_arg5, main_arg6] rfl (by decide) _

omit [FloatOps F] in
theorem args_of : (Pipeline.unscopedRestP Pipeline.Prefetch.none cfg0.spec c (fun b => m ((c : Thread nD τ).loc b)) : sProp 𝕄) ⊢ argsPts m c := by
  have h : (Pipeline.unscopedRestP Pipeline.Prefetch.none cfg0.spec c (fun b => m ((c : Thread nD τ).loc b)) : sProp 𝕄) = argsAll m c :=
    (Pipeline.unscopedRestP_eq_of_list spec0 c Pipeline.Prefetch.none (fun b => m ((c : Thread nD τ).loc b)) [main_arg0, main_arg1, main_arg2, main_arg3, main_arg4, main_arg5, main_arg6] (by decide) (by decide)).trans
      (argsAll_eq m c).symm
  rw [h, argsAll_eq]
  unfold argsPts
  iintro ⟨a0, a1, a2, a3, a4, a5, a6⟩
  iframe

omit [FloatOps F] in
theorem of_args : argsPts m c ⊢ argsAll m c := by
  rw [argsAll_eq]
  unfold argsPts
  iintro ⟨a0, a1, a4, a2, a5, a3, a6⟩
  iframe

/-- What a device starts from before its scoped buffers come, … -/
def start : sProp 𝕄 := iprop((∃ K, env m K) ∗ hands (F := F) c ∗ argsPts m c)
/-- … what it holds when the body starts, … -/
def Φ₀ : sProp 𝕄 := iprop(start m c ∗ rooms (F := F) c)
/-- … and when the body has ended. -/
def Φ₁ : sProp 𝕄 := iprop(semVal (barCell c) 0 ∗ shuts (F := F) c ∗ shut (F := F) c 30 ∗ argsPts m c ∗ rooms (F := F) c)

end Device

/-- The pipeline's data: one point, one window written back whole. -/
def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

section Obligation

omit [FloatOps F] in
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : b.ty.Contents (Elt F), ⌜f = X⌝ ∗ bufPts c b f) := by
  unfold owns bufPts; simp only [Memref.view_whole, View.read_whole, View.set_whole]

/-- The body, from what the pipeline hands it to what it hands back. -/
theorem point_run (c : Dev nD) :
    iprop(Φ₀ m c ∗ (dats m 0 c).owesAt () (t0_0 : Fin cfg0.N).castSucc ∗ (∃ d, ∃ f, ⌜f = (dats m 0 c).before (0 : Fin 1) t0_0 d⌝ ∗ bufPts c cc0_stg0_0 f))
      ⊢ runs c (bodyAt0 (F := F) t0_0) fun _ =>
          iprop(Φ₁ m c ∗ (dats m 0 c).owesAt () (t0_0 : Fin cfg0.N).succ ∗ ∃ f, ⌜f = outAt m c⌝ ∗ bufPts c cc0_stg0_0 f) := by
  unfold Φ₀ start hands rooms Dat.owesAt Pipeline.owesWithin
  rw [show (dats m 0 c).owed (t0_0 : Fin cfg0.N).castSucc = O₀ c from rfl, show (dats m 0 c).owed (t0_0 : Fin cfg0.N).succ = owed c 0 from rfl]
  iintro ⟨⟨⟨⟨%K, #He⟩, ⟨Hm, Hf, Hs, Ha, Hz⟩, Hargs⟩, ⟨Hc, Hev, Hod, H9, Hr, Hr0⟩⟩, ⟨%W, %hW, HO⟩, ⟨%d, %f, %hf, Hout⟩⟩
  unfold env
  icases He with ⟨#HR, #HL⟩
  ihave H30 := (recs_dma m K c 30 (by decide)) $$ HR
  icases H30 with ⟨#HI, -⟩
  unfold seat
  imod (Rounds.cell_close ER (Rd m) (Set.mem_univ (K (c, 30))) (fun h => h) (R := 0) (fun r _ => duties_last m c r)) $$ [Hz] with Hz
  · isplitr; · iexact HI
    iexact Hz
  iapply (body_run m K c t0_0) $$ [HO Hm Hf Hs Ha Hargs Hc Hev Hod H9 Hr Hout]
  · isplitr
    · unfold env; isplitr; · iexact HR
      iexact HL
    isplitl [HO]; · unfold owesE; iexists W; iexact HO
    isplitr [Hout]
    · unfold kit; iframe
    · unfold bufAny; iexists f; iexact Hout
  iintro ⟨HO, Hl, Hout⟩
  unfold leftover owesE
  icases Hl with ⟨Hb, Hargs, Hc, Hev, Hod, H9, Hr, Hsh⟩
  icases HO with ⟨%W', HO⟩
  unfold Φ₁ rooms shut
  isplitl [Hb Hsh Hz Hargs Hc Hev Hod H9 Hr Hr0]
  · iframe
  isplitl [HO]
  · iexists W'; isplitr; · ipureintro; exact fun _ _ => Or.inl trivial
    iexact HO
  iexists (outAt m c); isplitr; · (ipureintro; rfl)
  iexact Hout

set_option maxRecDepth 20000 in
theorem body_obligation (c : Dev nD) : BodyObligation (dats (F := F) m 0 c) (defs₀ (F := F)) 𝒱₀ () Set.univ := fun t => by
  rw [fin_N0 t]
  rw [bigSep_W0, bigSep_W0]
  simp only [owns_buf]
  exact point_run m c

end Obligation

/-! ## The launch's conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨Ha, #HL, Hc, -, HG⟩
  unfold G'
  icases HG with ⟨%K, #HR, Hl⟩
  ihave Hh := (hands_of (F := F) c) $$ [Hc Hl]
  · iframe
  ihave Ha := (args_of m c) $$ Ha
  imodintro
  unfold start
  isplitl
  · isplitr
    · iexists K; unfold env; isplitr; · iexact HR
      iexact HL
    iframe
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  ihave Hr := (rooms_of (F := F) c) $$ Hr
  iframe

theorem leave (c : Dev nD) :
    (dats m 0 c).Φ (Fin.last cfg0.N) ⊢ iprop((unscopedSems0 c ∗ argsAll m c) ∗ Pipeline.ownSems0 osem c ∗ Pipeline.scopedRest cfg0.spec c) := by
  rw [show (dats m 0 c).Φ (Fin.last cfg0.N) = Φ₁ m c from rfl]
  unfold Φ₁ shuts
  iintro ⟨Hb, ⟨⟨l0, l1, l2, l3, l4, l5, l6⟩, ⟨s0, s1, s2, s3, s4, s5, s6, s7, s8, s9, s10⟩, ⟨v0, v1, v2, v3, v4, v5, v6, v7, v8, v9, v10⟩⟩, Hz, Ha, Hr⟩
  ihave Hr := (of_rooms (F := F) c) $$ Hr
  ihave Ha := (of_args m c) $$ Ha
  ihave Hs := (Entails.of_eq (counters (F := F) c).symm) $$ [Hb Hz l0 l1 l2 l3 l4 l5 l6 s0 s1 s2 s3 s4 s5 s6 s7 s8 s9 s10 v0 v1 v2 v3 v4 v5 v6 v7 v8 v9 v10]
  · iframe
  icases Hs with ⟨Ho, Hu⟩
  iframe

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What the run ends with: on each device the result as computed and the arguments as they were; every counter at zero. -/
def Ends : PUnit × MemSt nD τ sig (Elt F) → Prop := fun r =>
  (∀ c : Dev nD, r.2.mem ((c : Thread nD τ).loc main_v1) = outAt m c
    ∧ ∀ b ∈ argRefs, r.2.mem ((c : Thread nD τ).loc b) = m ((c : Thread nD τ).loc b))
  ∧ r.2.sem = fun _ => 0

/-- The result array after the run is what the body left in its staging buffer. -/
theorem result_eq (c : Dev nD) : (dats m 0 c).arrAt (0 : Fin 1) cfg0.N = outAt m c := by
  have h : (win0_0.blk t0_0).view.read (Elt F) ((dats m 0 c).arrAt (0 : Fin 1) cfg0.N) = outAt m c := by
    rw [show cfg0.N = (t0_0 : Fin cfg0.N).val + 1 from N_0, (dats m 0 c).arrAt_succ (0 : Fin 1) t0_0]
    rw [flush0_0, if_pos rfl]
    exact View.read_write_univ _ _
  have hz : (fun a => (win0_0.index t0_0) a * main_v1.ty.shape.size a) = fun _ => 0 := funext fun a => by fin_cases a <;> decide
  exact (Memref.read_access_unit_zero (Elt F) main_v1 hz (fun a => by fin_cases a <;> decide) _).symm.trans h

set_option maxRecDepth 8000 in
/-- From any memory with every counter at zero the program ends, on every device with its result as named, its arguments
    as they were, and every counter at zero again. -/
theorem run_main : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => iprop(unscopedSems0 c ∗ argsAll m c)) (Z := fun _ => iprop(emp))
    (hX := start_intro m ρ) (hin := enter m) (hout := leave m)
    (QY := fun c s => (∀ sm : SemLoc sig, sm.isScoped .tc = false → s.sem ((c.tc : Thread nD τ), sm) = 0) ∧ ∀ b ∈ argRefs, s.mem ((c : Thread nD τ).loc b) = m ((c : Thread nD τ).loc b))
    (hY := fun c s' => by
      unfold argsAll
      iintro ⟨⟨Hu, Ha⟩, -, HSI⟩
      ihave H := (pointsTo_read_all argRefs (fun b => (c : Thread nD τ).loc b) (fun b => m ((c : Thread nD τ).loc b)) s') $$ [Ha HSI]
      · isplitl [Ha] <;> iassumption
      icases H with ⟨%ha, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, ha⟩
      iexact HSI)
    (hQ := fun _ h hs => ⟨fun c => ⟨((h c).1 (0 : Fin 1)).trans (result_eq m c), (h c).2.2.2⟩, sem_eq_zero hs fun c => (h c).2.2.1⟩)

end Cert.Tower

end
-- ==== Proof.Tensors.lean ====
/-
# Products of real matrices

At the ideal values a product is a finite sum of products, so it may be cut along the contracted coordinate. A layer is a
product, a maximum with zero and a second product; cut into four along the hidden coordinate it is the sum of the four
partial layers. Sums of extended reals may be regrouped and reordered freely, infinite or not, so nothing here asks
anything of the entries.
-/
module

public import proofs.«01_k».proof.Proof.Schedule
public import Idealize.ShloMosaic.Lib.KernelVsHost
public import Idealize.ShloMosaic.Lib.StackMember
public import Idealize.ShloMosaic.Lib.Layout
public import Idealize.ShloMosaic.Lib.Pipeline.Value
public import Mathlib.Algebra.BigOperators.Fin
public import Mathlib.Tactic.Abel

@[expose] public section

noncomputable section

namespace Cert.Tower

open Idealize.ShloMosaic
open Idealize.ShloMosaic.ValueIdx
open scoped BigOperators

abbrev Mat (M N : ℕ) : Type := (⟨2, ![M, N]⟩ : Shape).Idx → EReal

section
variable {M K N H : ℕ}

/-- Two matrices are equal when their entries are. -/
theorem mat_ext {a b : Mat M N} (h : ∀ (r : Fin M) (c : Fin N), a (ix2 r c) = b (ix2 r c)) : a = b :=
  funext fun i => (congrArg a (eq_ix2 i)).trans ((h (i 0) (i 1)).trans (congrArg b (eq_ix2 i)).symm)

/-- The product of two matrices, -/
def prod (a : Mat M K) (b : Mat K N) : Mat M N := fun i => ∑ k : Fin K, a (ix2 (i 0) k) * b (ix2 k (i 1))
/-- the negative entries replaced by zero, -/
def relu (a : Mat M N) : Mat M N := fun i => max (a i) 0
/-- and a layer. -/
def layer (x : Mat M K) (w : Mat K H) (v : Mat H N) : Mat M N := prod (relu (prod x w)) v

theorem prod_ix2 (a : Mat M K) (b : Mat K N) (r : Fin M) (c : Fin N) : prod a b (ix2 r c) = ∑ k : Fin K, a (ix2 r k) * b (ix2 k c) := rfl

/-- The host's product, … -/
theorem dot_prod {φ₁ φ₂ : FTy} (d : DotDims ⟨2, ![M, K]⟩ ⟨2, ![K, N]⟩ ⟨2, ![M, N]⟩) (hd : d = DotDims.plain M K N)
    (a : FVec Ideal ⟨2, ![M, K]⟩ φ₁) (b : FVec Ideal ⟨2, ![K, N]⟩ φ₂) : Host.dotGeneral d none a b = prod a b := by
  subst hd
  funext i
  rw [eq_ix2 i]
  exact StackMember.dotGeneral_plain_apply none a b _ _

/-- … and the kernel's into an accumulator of zeros, are the product. -/
theorem matmul_prod {φ₁ φ₂ : FTy} (d : DotDims ⟨2, ![M, K]⟩ ⟨2, ![K, N]⟩ ⟨2, ![M, N]⟩) (hd : d = DotDims.plain M K N)
    (a : FVec Ideal ⟨2, ![M, K]⟩ φ₁) (b : FVec Ideal ⟨2, ![K, N]⟩ φ₂) :
    matmul d none a b (constant ⟨2, ![M, N]⟩ .f32 0x00000000#32) = prod a b :=
  (matmul_zero_eq_dotGeneral d none a b).trans (dot_prod d hd a b)

theorem max_relu {φ : FTy} (a z : FVec Ideal ⟨2, ![M, N]⟩ φ) (hz : ∀ i, z i = (0 : EReal)) : maximumf a z = relu a := by
  funext i
  show max (a i) (z i) = max (a i) 0
  rw [hz i]

/-- A product may be computed one block of columns at a time, … -/
theorem prod_cols {N' : ℕ} (a : Mat M K) (b : Mat K N) (f : Fin N' → Fin N) :
    prod a (fun i => b (ix2 (i 0) (f (i 1))) : Mat K N') = fun i => prod a b (ix2 (i 0) (f (i 1))) := rfl

/-- … or one block of rows, … -/
theorem prod_rows {M' : ℕ} (a : Mat M K) (b : Mat K N) (f : Fin M' → Fin M) :
    prod (fun i => a (ix2 (f (i 0)) (i 1)) : Mat M' K) b = fun i => prod a b (ix2 (f (i 0)) (i 1)) := rfl

end

/-- … or as a sum of two, the contracted coordinate cut in halves. -/
theorem prod_halves {M P N : ℕ} (a : Mat M (P + P)) (b : Mat (P + P) N) (i : (⟨2, ![M, N]⟩ : Shape).Idx) :
    prod a b i = prod (fun j => a (ix2 (j 0) (Fin.castAdd P (j 1))) : Mat M P) (fun j => b (ix2 (Fin.castAdd P (j 0)) (j 1)) : Mat P N) i
      + prod (fun j => a (ix2 (j 0) (Fin.natAdd P (j 1))) : Mat M P) (fun j => b (ix2 (Fin.natAdd P (j 0)) (j 1)) : Mat P N) i := by
  unfold prod
  rw [Fin.sum_univ_add]
  rfl

/-- A sum over 2048 terms is four sums over 512. -/
theorem sum_blocks (f : Fin 2048 → EReal) :
    ∑ k : Fin 2048, f k = ∑ c : Fin 4, ∑ k : Fin 512, f ⟨c.val * 512 + k.val, by have := c.isLt; have := k.isLt; omega⟩ := by
  rw [← Finset.sum_product', Finset.univ_product_univ]
  refine (Equiv.sum_comp (finProdFinEquiv : Fin 4 × Fin 512 ≃ Fin 2048) f).symm.trans (Finset.sum_congr rfl fun p _ => congrArg f (Fin.ext ?_))
  show p.2.val + 512 * p.1.val = p.1.val * 512 + p.2.val
  omega

abbrev colsOf (c : Fin 4) (w : Mat 256 2048) : Mat 256 512 := Layout.block ⟨2, ![256, 512]⟩ ⟨2, ![256, 2048]⟩ 1 4 c w
abbrev rowsOf (c : Fin 4) (v : Mat 2048 256) : Mat 512 256 := Layout.block ⟨2, ![512, 256]⟩ ⟨2, ![2048, 256]⟩ 0 4 c v

theorem colsOf_ix2 (c : Fin 4) (w : Mat 256 2048) (r : Fin 256) (k : Fin 512) :
    colsOf c w (ix2 r k) = w (ix2 r ⟨c.val * 512 + k.val, by have := c.isLt; have := k.isLt; omega⟩) := by
  refine congrArg w (funext fun a => Fin.ext ?_)
  match a with
  | ⟨0, _⟩ => rfl
  | ⟨1, _⟩ => rfl

theorem rowsOf_ix2 (c : Fin 4) (v : Mat 2048 256) (k : Fin 512) (j : Fin 256) :
    rowsOf c v (ix2 k j) = v (ix2 ⟨c.val * 512 + k.val, by have := c.isLt; have := k.isLt; omega⟩ j) := by
  refine congrArg v (funext fun a => Fin.ext ?_)
  match a with
  | ⟨0, _⟩ => rfl
  | ⟨1, _⟩ => rfl

/-- A layer is the sum over the four devices of the layer through a device's blocks of the two weights. -/
theorem layer_blocks (x : Mat 256 256) (w : Mat 256 2048) (v : Mat 2048 256) :
    layer x w v = fun i => ∑ c : Fin 4, layer x (colsOf c w) (rowsOf c v) i := by
  refine mat_ext fun r l => ?_
  show prod (relu (prod x w)) v (ix2 r l) = ∑ c : Fin 4, prod (relu (prod x (colsOf c w))) (rowsOf c v) (ix2 r l)
  rw [prod_ix2, sum_blocks]
  refine Finset.sum_congr rfl fun c _ => ?_
  rw [prod_ix2]
  refine Finset.sum_congr rfl fun k _ => congrArg₂ (· * ·) (congrArg (max · 0) ?_) (rowsOf_ix2 c v k l).symm
  rw [prod_ix2, prod_ix2]
  exact Finset.sum_congr rfl fun j _ => congrArg (x (ix2 r j) * ·) (colsOf_ix2 c w j k).symm

/-! ## Sums over the four devices -/

section
variable (f : Fin 4 → EReal) (c : Fin 4)

/-- Pairing the devices one way, then the other, sums over the four. -/
theorem sum_AB : f c + f (pA c) + (f (pB c) + f (pA (pB c))) = ∑ d : Fin 4, f d := by
  rw [Fin.sum_univ_four]
  have h : c = 0 ∨ c = 1 ∨ c = 2 ∨ c = 3 := by revert c; decide
  rcases h with rfl | rfl | rfl | rfl
  · show f 0 + f 1 + (f 3 + f 2) = _; abel
  · show f 1 + f 0 + (f 2 + f 3) = _; abel
  · show f 2 + f 3 + (f 1 + f 0) = _; abel
  · show f 3 + f 2 + (f 0 + f 1) = _; abel

theorem sum_BA : f c + f (pB c) + (f (pA c) + f (pB (pA c))) = ∑ d : Fin 4, f d := by
  rw [← sum_AB f c, pB_pA, pA_pB]; abel

/-- A device and the three others, going round. -/
theorem sum_round : f c + f (shift 1 c) + f (shift 2 c) + f (shift 3 c) = ∑ d : Fin 4, f d := by
  rw [← sum_AB f c, pA_pB]
  by_cases h : c.val % 2 = 0
  · rw [show pA c = shift 1 c from if_pos h, show pB c = shift 3 c from if_pos h]; abel
  · rw [show pA c = shift 3 c from if_neg h, show pB c = shift 1 c from if_neg h]; abel

end

end Cert.Tower

end
-- ==== Proof.Values.lean ====
/-
# What the kernel computes, over the extended reals

Read at the ideal values the format changes are the identity, so each payload of the kernel is a product, a sum, or a
maximum with zero of the matrices it is given. This module reads the payloads so and follows them through the three
layers: after each exchange the two halves a device holds are the halves of the sum over the four devices, and the row
block it returns is that row block of the last such sum.
-/
module

public import proofs.«01_k».proof.Proof.Tensors

@[expose] public section

noncomputable section

namespace Cert.Tower

open Cert.KernelIdeal Cert.KernelIdeal.Gen
open Idealize.ShloMosaic
open Idealize.ShloMosaic.TcCoe
open Idealize.ShloMosaic.ValueIdx
open scoped BigOperators

/-! ## Halves and tiles -/

section
variable {M N : ℕ}

/-- The left and the right half of a matrix's columns; -/
def left (p : Mat M 256) : Mat M 128 := fun i => p (ix2 (i 0) (Fin.castAdd 128 (i 1)))
def right (p : Mat M 256) : Mat M 128 := fun i => p (ix2 (i 0) (Fin.natAdd 128 (i 1)))
/-- the upper and the lower half of its rows. -/
def upper (p : Mat 256 N) : Mat 128 N := fun i => p (ix2 (Fin.castAdd 128 (i 0)) (i 1))
def lower (p : Mat 256 N) : Mat 128 N := fun i => p (ix2 (Fin.natAdd 128 (i 0)) (i 1))

theorem left_prod {K : ℕ} (a : Mat M K) (b : Mat K 256) : prod a (left b) = left (prod a b) := rfl
theorem right_prod {K : ℕ} (a : Mat M K) (b : Mat K 256) : prod a (right b) = right (prod a b) := rfl

/-- A product from the halves of its factors. -/
theorem prod_of_halves (a : Mat M 256) (b : Mat 256 N) (i : (⟨2, ![M, N]⟩ : Shape).Idx) :
    prod (left a) (upper b) i + prod (right a) (lower b) i = prod a b i := (prod_halves (P := 128) a b i).symm

theorem slice_left {R : ℕ} (v : Mat R 256) (h : (⟨2, ![R, 256]⟩ : Shape).Slices ![0, 0] ⟨2, ![R, 128]⟩) :
    extractStridedSlice ⟨2, ![R, 128]⟩ ![0, 0] v h = left v :=
  mat_ext fun r c => extractStridedSlice_apply _ _ _ _ (ix2 r (Fin.castAdd 128 c) : (⟨2, ![R, 256]⟩ : Shape).Idx) fun a =>
    match a with
    | ⟨0, _⟩ => (Nat.zero_add _).symm
    | ⟨1, _⟩ => (Nat.zero_add _).symm

theorem slice_right {R : ℕ} (v : Mat R 256) (h : (⟨2, ![R, 256]⟩ : Shape).Slices ![0, 128] ⟨2, ![R, 128]⟩) :
    extractStridedSlice ⟨2, ![R, 128]⟩ ![0, 128] v h = right v :=
  mat_ext fun r c => extractStridedSlice_apply _ _ _ _ (ix2 r (Fin.natAdd 128 c) : (⟨2, ![R, 256]⟩ : Shape).Idx) fun a =>
    match a with
    | ⟨0, _⟩ => (Nat.zero_add _).symm
    | ⟨1, _⟩ => rfl

theorem slice_upper {C : ℕ} (v : Mat 256 C) (h : (⟨2, ![256, C]⟩ : Shape).Slices ![0, 0] ⟨2, ![128, C]⟩) :
    extractStridedSlice ⟨2, ![128, C]⟩ ![0, 0] v h = upper v :=
  mat_ext fun r c => extractStridedSlice_apply _ _ _ _ (ix2 (Fin.castAdd 128 r) c : (⟨2, ![256, C]⟩ : Shape).Idx) fun a =>
    match a with
    | ⟨0, _⟩ => (Nat.zero_add _).symm
    | ⟨1, _⟩ => (Nat.zero_add _).symm

theorem slice_lower {C : ℕ} (v : Mat 256 C) (h : (⟨2, ![256, C]⟩ : Shape).Slices ![128, 0] ⟨2, ![128, C]⟩) :
    extractStridedSlice ⟨2, ![128, C]⟩ ![128, 0] v h = lower v :=
  mat_ext fun r c => extractStridedSlice_apply _ _ _ _ (ix2 (Fin.natAdd 128 r) c : (⟨2, ![256, C]⟩ : Shape).Idx) fun a =>
    match a with
    | ⟨0, _⟩ => rfl
    | ⟨1, _⟩ => (Nat.zero_add _).symm

end

/-- A half partial as the tile that is sent. -/
def tile (a : Mat 256 128) : Vec Ideal S1x256x128 .bf16 := shapeCast S1x256x128 a shapeCasts_S256x128_S1x256x128

/-- The sum of two matrices. -/
def plus {M N : ℕ} (a b : Mat M N) : Mat M N := fun i => a i + b i

/-- The tile received, added to what is held. -/
theorem plus_tile (a b : Mat 256 128) :
    addf (F := Ideal) (φ := .f32) a (extf .f32 (shapeCast S256x128 (tile b) shapeCasts_S1x256x128_S256x128 : FVec Ideal S256x128 .bf16) bitsLt_bf16_f32) = plus a b := by
  unfold tile
  rw [shapeCast_shapeCast]
  rfl

/-! ## The payloads -/

theorem zeros (s : Shape) (i : s.Idx) : broadcast s (Scalar.ofBits (F := Ideal) .f32 0x00000000#32) i = (0 : EReal) := Ideal.ofBits_zero_f32

section
variable (x : Mat 256 256) (w : Mat 256 512) (v : Mat 512 256)

theorem pay2_eq : k0_pay2 (F := Ideal) x w = relu (prod x w) :=
  (max_relu _ _ (zeros _)).trans (congrArg relu (matmul_prod (φ₁ := .bf16) (φ₂ := .bf16) _ rfl x w))

theorem pay4_eq : k0_pay4 (F := Ideal) x w v = left (layer x w v) := by
  refine (matmul_prod (φ₁ := .bf16) (φ₂ := .bf16) _ rfl _ _).trans ?_
  rw [pay2_eq]
  exact congrArg (prod _) (slice_left v _)

theorem pay5_eq : k0_pay5 (F := Ideal) x w v = right (layer x w v) := by
  refine (matmul_prod (φ₁ := .bf16) (φ₂ := .bf16) _ rfl _ _).trans ?_
  rw [pay2_eq]
  exact congrArg (prod _) (slice_right v _)

/-- The two half products, the maximum with zero, and the product with half the second weight. -/
theorem pair_eq (X : Mat 256 256) (l r : Mat 256 128) (hl : l = left X) (hr : r = right X) (hu : S256x512.Slices ![0, 0] S128x512)
    (hd : S256x512.Slices ![128, 0] S128x512) :
    addf (F := Ideal) (φ := .f32)
      (matmul (F := Ideal) (φ₁ := .bf16) (φ₂ := .bf16) dot_S256x128_S128x512_S256x512_1_0_0_1_n_n none l (extractStridedSlice S128x512 ![0, 0] w hu) (constant S256x512 .f32 0x00000000#32))
      (matmul (F := Ideal) (φ₁ := .bf16) (φ₂ := .bf16) dot_S256x128_S128x512_S256x512_1_0_0_1_n_n none r (extractStridedSlice S128x512 ![128, 0] w hd) (constant S256x512 .f32 0x00000000#32))
      = prod X w := by
  rw [matmul_prod (φ₁ := .bf16) (φ₂ := .bf16) dot_S256x128_S128x512_S256x512_1_0_0_1_n_n rfl, matmul_prod (φ₁ := .bf16) (φ₂ := .bf16) dot_S256x128_S128x512_S256x512_1_0_0_1_n_n rfl,
    hl, hr]
  funext i
  refine Eq.trans ?_ (prod_of_halves X w i)
  exact congrArg₂ (fun p q : Mat 128 512 => prod (left X) p i + prod (right X) q i) (slice_upper w hu) (slice_lower w hd)

theorem pay16_eq (X : Mat 256 256) (l r b : Mat 256 128) (hl : l = left X) (hr : plus r b = right X) :
    k0_pay16 (F := Ideal) w r l (tile b) = relu (prod X w) := by
  refine (max_relu _ _ (zeros _)).trans (congrArg relu ?_)
  exact pair_eq w X l _ hl ((plus_tile r b).trans hr) _ _

theorem pay17_eq (X : Mat 256 256) (l r b : Mat 256 128) (hl : l = left X) (hr : plus r b = right X) :
    k0_pay17 (F := Ideal) w r v l (tile b) = left (layer X w v) := by
  refine (matmul_prod (φ₁ := .bf16) (φ₂ := .bf16) _ rfl _ _).trans ?_
  rw [pay16_eq w X l r b hl hr]
  exact congrArg (prod _) (slice_left v _)

theorem pay18_eq (X : Mat 256 256) (l r b : Mat 256 128) (hl : l = left X) (hr : plus r b = right X) :
    k0_pay18 (F := Ideal) w r v l (tile b) = right (layer X w v) := by
  refine (matmul_prod (φ₁ := .bf16) (φ₂ := .bf16) _ rfl _ _).trans ?_
  rw [pay16_eq w X l r b hl hr]
  exact congrArg (prod _) (slice_right v _)

theorem pay29_eq (X : Mat 256 256) (l r a b : Mat 256 128) (hl : plus l a = left X) (hr : plus r b = right X) :
    k0_pay29 (F := Ideal) (k0_pay27 w l r (tile a) (tile b)) k0_pay28 = relu (prod X w) := by
  refine (shapeCast_self _ _).trans ((max_relu _ _ (zeros _)).trans (congrArg relu ?_))
  exact pair_eq w X _ _ ((plus_tile l a).trans hl) ((plus_tile r b).trans hr) _ _

/-- The last product, on a block of rows. -/
theorem pay34_eq (h : Mat 64 512) : k0_pay34 (F := Ideal) v h = prod h v := matmul_prod (φ₁ := .bf16) (φ₂ := .bf16) _ rfl _ _
theorem pay32_eq (h : Mat 64 512) : k0_pay32 (F := Ideal) (k0_pay31 v h) = prod h v :=
  (shapeCast_self _ _).trans (matmul_prod (φ₁ := .bf16) (φ₂ := .bf16) _ rfl _ _)
theorem pay30_eq (h : Mat 64 512) : k0_pay30 (F := Ideal) v h = prod h v :=
  (shapeCast_self _ _).trans (matmul_prod (φ₁ := .bf16) (φ₂ := .bf16) _ rfl _ _)
theorem pay33_eq (h : Mat 64 512) : k0_pay33 (F := Ideal) v h = prod h v :=
  (shapeCast_self _ _).trans (matmul_prod (φ₁ := .bf16) (φ₂ := .bf16) _ rfl _ _)

end

theorem tileOf_cast (b : Mat 64 256) : shapeCast S64x256 (tileOf (F := Ideal) b) shapeCasts_S1x64x256_S64x256 = b :=
  mat_ext fun r c => congrArg (tileOf (F := Ideal) b) (squeeze_idx (a := 64) (b := 256) shapeCasts_S1x64x256_S64x256.symm (ix2 r c))

/-- The four row blocks summed. -/
theorem pay1_eq (o a b d : Mat 64 256) :
    k0_pay1 (F := Ideal) (k0_pay35 o (tileOf a) (tileOf b)) (tileOf d) = plus (plus (plus o a) b) d := by
  unfold k0_pay1 k0_pay35
  rw [tileOf_cast, tileOf_cast, tileOf_cast]
  rfl

/-! ## The layers -/

variable (m : (ℓ : Loc nD τ sig) → Buf (Elt Ideal) ℓ)

/-- Device `c`'s partial of the first layer, -/
def part0 (c : Fin 4) : Mat 256 256 := layer (xAt m c) (wi0 m c) (wo0 m c)
/-- the sum of the four, -/
def full0 : Mat 256 256 := fun i => ∑ d : Fin 4, part0 m d i
/-- and so for the second -/
def part1 (c : Fin 4) : Mat 256 256 := layer (full0 m) (wi1 m c) (wo1 m c)
def full1 : Mat 256 256 := fun i => ∑ d : Fin 4, part1 m d i
/-- and the third. -/
def part2 (c : Fin 4) : Mat 256 256 := layer (full1 m) (wi2 m c) (wo2 m c)
def full2 : Mat 256 256 := fun i => ∑ d : Fin 4, part2 m d i

section
variable (c : Fin 4)

theorem l0_eq : l0 m c = left (part0 m c) := pay4_eq _ _ _
theorem r0_eq : r0 m c = right (part0 m c) := pay5_eq _ _ _
theorem s0_eq : s0 m c = tile (left (part0 m c)) := congrArg tile (l0_eq m c)
theorem s1_eq : s1 m c = tile (right (part0 m c)) := congrArg tile (r0_eq m c)
theorem l1_eq : l1 m c = plus (left (part0 m c)) (left (part0 m (pA c))) := by
  unfold l1; rw [l0_eq, s0_eq]; exact plus_tile _ _
theorem s2_eq : s2 m c = tile (plus (left (part0 m c)) (left (part0 m (pA c)))) := congrArg tile (l1_eq m c)
theorem r1_eq : r1 m c = plus (right (part0 m c)) (right (part0 m (pB c))) := by
  unfold r1; rw [r0_eq, s1_eq]; exact plus_tile _ _
theorem s3_eq : s3 m c = tile (plus (right (part0 m c)) (right (part0 m (pB c)))) := congrArg tile (r1_eq m c)

theorem l2_eq : l2 m c = left (full0 m) := by
  unfold l2; rw [l1_eq, s2_eq]
  refine (plus_tile _ _).trans (funext fun i => ?_)
  exact sum_AB (fun d => left (part0 m d) i) c

theorem r2_eq : plus (plus (right (part0 m c)) (right (part0 m (pB c)))) (plus (right (part0 m (pA c))) (right (part0 m (pB (pA c))))) = right (full0 m) :=
  funext fun i => sum_BA (fun d => right (part0 m d) i) c

theorem l3_eq : l3 m c = left (part1 m c) := by
  unfold l3; rw [r1_eq, s3_eq]; exact pay17_eq _ _ _ _ _ _ (l2_eq m c) (r2_eq m c)
theorem r3_eq : r3 m c = right (part1 m c) := by
  unfold r3; rw [r1_eq, s3_eq]; exact pay18_eq _ _ _ _ _ _ (l2_eq m c) (r2_eq m c)
theorem s4_eq : s4 m c = tile (left (part1 m c)) := congrArg tile (l3_eq m c)
theorem s5_eq : s5 m c = tile (right (part1 m c)) := congrArg tile (r3_eq m c)
theorem l4_eq : l4 m c = plus (left (part1 m c)) (left (part1 m (pA c))) := by
  unfold l4; rw [l3_eq, s4_eq]; exact plus_tile _ _
theorem s6_eq : s6 m c = tile (plus (left (part1 m c)) (left (part1 m (pA c)))) := congrArg tile (l4_eq m c)
theorem r4_eq : r4 m c = plus (right (part1 m c)) (right (part1 m (pB c))) := by
  unfold r4; rw [r3_eq, s5_eq]; exact plus_tile _ _
theorem s7_eq : s7 m c = tile (plus (right (part1 m c)) (right (part1 m (pB c)))) := congrArg tile (r4_eq m c)

/-- The last layer's activations, through the device's block of the weight. -/
theorem hAt_eq : hAt m c = relu (prod (full1 m) (wi2 m c)) := by
  unfold hAt; rw [l4_eq, r4_eq, s6_eq, s7_eq]
  exact pay29_eq _ _ _ _ _ _ (funext fun i => sum_AB (fun d => left (part1 m d) i) c) (funext fun i => sum_BA (fun d => right (part1 m d) i) c)

/-- The row block of device `d`. -/
def block (p : Mat 256 256) (d : Fin 4) : Mat 64 256 := fun i => p (ix2 ⟨d.val * 64 + (i 0).val, by have := d.isLt; have := idx2_lt0 i; omega⟩ (i 1))

/-- The product of a row block of the activations is that row block of the device's partial. -/
theorem prod_hRow (i : ℕ) : prod (hRow m i c) (wo2 m c) = block (part2 m c) (shift i c) := by
  refine mat_ext fun r l => ?_
  show ∑ k : Fin 512, hRow m i c (ix2 r k) * wo2 m c (ix2 k l)
    = ∑ k : Fin 512, relu (prod (full1 m) (wi2 m c)) (ix2 ⟨(shift i c).val * 64 + r.val, _⟩ k) * wo2 m c (ix2 k l)
  refine Finset.sum_congr rfl fun k _ => congrArg (· * wo2 m c (ix2 k l)) ?_
  rw [← hAt_eq]
  refine congrArg (hAt m c) (funext fun a => Fin.ext ?_)
  match a with
  | ⟨0, _⟩ => show 64 * (shift i c).val + 1 * r.val = (shift i c).val * 64 + r.val; omega
  | ⟨1, _⟩ => show 0 + 1 * k.val = k.val; omega

/-- Device `c` returns its row block of the last sum. -/
theorem outAt_eq : outAt m c = block (full2 m) c := by
  have e0 : k0_pay34 (F := Ideal) (k0_pay26 (wo2 m c)) (hRow m 0 c) = block (part2 m c) (shift 0 c) := (pay34_eq _ _).trans (prod_hRow m c 0)
  have e3 : rv m 3 (shift 1 c) = block (part2 m (shift 1 c)) (shift 3 (shift 1 c)) := (pay33_eq _ _).trans (prod_hRow m _ 3)
  have e2 : rv m 2 (shift 2 c) = block (part2 m (shift 2 c)) (shift 2 (shift 2 c)) := (pay30_eq _ _).trans (prod_hRow m _ 2)
  have e1 : rv m 1 (shift 3 c) = block (part2 m (shift 3 c)) (shift 1 (shift 3 c)) := (pay32_eq _ _).trans (prod_hRow m _ 1)
  have s0c : shift 0 c = c := Fin.ext (Nat.mod_eq_of_lt c.isLt)
  unfold outAt
  rw [e0, e3, e2, e1, s0c, shift31, shift22, shift13]
  refine (pay1_eq _ _ _ _).trans (funext fun i => ?_)
  exact sum_round (fun d => block (part2 m d) c i) c

end

end Cert.Tower

end
-- ==== Proof.Equation.lean ====
/-
# The kernel computes the reference

The reference is three layers one after the other. Each is the sum over the devices of its four partial layers, which is
what the devices' exchanges computed; so each device returns its row block of the reference's result.
-/
module

public import proofs.«01_k».proof.Proof.Values
public import proofs.«01_k».proof.Proof.Gen.ReferenceIdeal.Run

@[expose] public section

noncomputable section

namespace Cert.Tower

open Idealize.ShloMosaic
open Idealize.ShloMosaic.TcCoe
open Idealize.ShloMosaic.ValueIdx
open scoped BigOperators

open Cert.ReferenceIdeal in
/-- A layer as the reference writes it. -/
theorem host_layer (x : FVec Ideal S256x256 .f32) (w : FVec Ideal S256x2048 .f32) (v : FVec Ideal S2048x256 .f32)
    (h : S_.BroadcastsInDim S256x2048 (![] : Fin 0 → Fin S256x2048.rank)) :
    Host.dotGeneral (F := Ideal) Cert.ReferenceIdeal.dot_S256x2048_S2048x256_S256x256_1_0_0_1_n_n none
      (maximumf (Host.dotGeneral (F := Ideal) Cert.ReferenceIdeal.dot_S256x256_S256x2048_S256x2048_1_0_0_1_n_n none x w)
        (broadcastInDim S256x2048 ![] h (constant S_ .f32 0x00000000#32))) v
      = layer x w v := by
  refine (dot_prod _ rfl _ _).trans (congrArg (fun a => prod a v) ?_)
  exact (max_relu _ _ fun i => Ideal.ofBits_zero_f32).trans (congrArg relu (dot_prod _ rfl _ _))

/-- Device `c`'s result is its block of the three layers of the whole arrays, of which it was launched with its part. -/
theorem outAt_block (m : (ℓ : Loc Cert.KernelIdeal.nD Cert.KernelIdeal.τ Cert.KernelIdeal.sig) → Buf (Elt Ideal) ℓ)
    (x : Mat 256 256) (w₀ w₁ w₂ : Mat 256 2048) (v₀ v₁ v₂ : Mat 2048 256) (hx : ∀ c, xAt m c = x)
    (hw₀ : ∀ c, wi0 m c = colsOf c w₀) (hw₁ : ∀ c, wi1 m c = colsOf c w₁) (hw₂ : ∀ c, wi2 m c = colsOf c w₂)
    (hv₀ : ∀ c, wo0 m c = rowsOf c v₀) (hv₁ : ∀ c, wo1 m c = rowsOf c v₁) (hv₂ : ∀ c, wo2 m c = rowsOf c v₂) (c : Fin 4) :
    outAt m c = Layout.block ⟨2, ![64, 256]⟩ ⟨2, ![256, 256]⟩ 0 4 c (layer (layer (layer x w₀ v₀) w₁ v₁) w₂ v₂) := by
  have e0 : full0 m = layer x w₀ v₀ := by
    rw [layer_blocks]; unfold full0 part0; simp only [hx, hw₀, hv₀]
  have e1 : full1 m = layer (layer x w₀ v₀) w₁ v₁ := by
    rw [layer_blocks, ← e0]; unfold full1 part1; simp only [hw₁, hv₁]
  have e2 : full2 m = layer (layer (layer x w₀ v₀) w₁ v₁) w₂ v₂ := by
    rw [layer_blocks, ← e1]; unfold full2 part2; simp only [hw₂, hv₂]
  rw [outAt_eq, e2]
  refine mat_ext fun r l => congrArg (layer (layer (layer x w₀ v₀) w₁ v₁) w₂ v₂) (funext fun a => Fin.ext ?_)
  match a with
  | ⟨0, _⟩ => rfl
  | ⟨1, _⟩ => rfl

end Cert.Tower

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- What the kernel's run says of the arguments and the counters. -/
theorem args_kept {F : FTy → Type} [FloatOps F] {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (h : Cert.Tower.Ends m r)
    (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
    ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
    ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) :=
  have k := fun b hb => (h.1 c).2 b hb
  ⟨k _ (by decide), k _ (by decide), k _ (by decide), k _ (by decide), k _ (by decide), k _ (by decide), k _ (by decide)⟩

/-- The two texts of the kernel have the same body, … -/
theorem bodies_eq : Cert.Kernel.defs₀ (F := Bits) = Cert.KernelIdeal.defs₀ (F := Bits) :=
  congrArg (Defs.onTc (nD := Cert.KernelIdeal.nD) (τ := Cert.KernelIdeal.τ) (sig := Cert.KernelIdeal.sig) (Val := Elt Bits) (Λ := Cert.KernelIdeal.Λ₀))
    (funext fun ℓ => by
      match ℓ with
      | ⟨0, _⟩ => rfl)

/-- … hence the same table of functions. -/
theorem tables_eq : Cert.Kernel.defs (F := Bits) = Cert.KernelIdeal.defs (F := Bits) :=
  congrArg (Pipeline.defs (Cert.KernelIdeal.pcfgs (F := Bits))) bodies_eq

/-- The kernel at the floats' bits: it ends, its arguments are as they were, every counter is at zero. -/
theorem frame_kernel : Cert.quiescent_Kernel := by
  intro m ρ _
  rw [tables_eq]
  exact (θ_run Cert.KernelIdeal.defs _ _).mono (fun _ h => And.intro (args_kept h) h.2) (Cert.Tower.run_main (F := Bits) m ρ)

/-- The same at the ideal values. -/
theorem frame_kernelIdeal : Cert.quiescent_KernelIdeal := fun m ρ _ =>
  (θ_run Cert.KernelIdeal.defs _ _).mono (fun _ h => ⟨args_kept h, h.2⟩) (Cert.Tower.run_main (F := Ideal) m ρ)

/-- The reference: it ends, its arguments are as they were, and it has no counters. -/
theorem frame_reference : Cert.quiescent_ReferenceIdeal := fun m ρ _ =>
  (θ_run Cert.ReferenceIdeal.defs _ _).mono (fun _ h => ⟨fun c => (h c).2, funext fun g => nomatch g.2⟩)
    (Cert.ReferenceIdeal.Value.run (F := Ideal) m ρ)

/-- The whole-array reference's result. -/
def result (m' : (ℓ : Loc Cert.ReferenceIdeal.nD Cert.ReferenceIdeal.τ Cert.ReferenceIdeal.sig) → Buf (Elt Ideal) ℓ) : Cert.Tower.Mat 256 256 :=
  let a := fun b => m' (((0 : Dev Cert.ReferenceIdeal.nD).tc : Thread Cert.ReferenceIdeal.nD Cert.ReferenceIdeal.τ).loc b)
  Cert.Tower.layer (Cert.Tower.layer (Cert.Tower.layer (a Cert.ReferenceIdeal.main_arg0) (a Cert.ReferenceIdeal.main_arg1) (a Cert.ReferenceIdeal.main_arg4))
    (a Cert.ReferenceIdeal.main_arg2) (a Cert.ReferenceIdeal.main_arg5)) (a Cert.ReferenceIdeal.main_arg3) (a Cert.ReferenceIdeal.main_arg6)

/-- Each device's result is its block of rows of the reference's result. -/
theorem algebraic : Cert.algebraic_KernelIdeal_ReferenceIdeal := by
  intro m g m' g' _ hargs
  refine ⟨result m', ?_, ?_⟩
  · refine (θ_run Cert.KernelIdeal.defs _ _).mono (fun r h c => ⟨((h.1 c).1).trans ?_, args_kept h c⟩) (Cert.Tower.run_main (F := Ideal) m g)
    exact Cert.Tower.outAt_block m _ _ _ _ _ _ _ (fun c => (hargs c).1) (fun c => (hargs c).2.1) (fun c => (hargs c).2.2.1) (fun c => (hargs c).2.2.2.1)
      (fun c => (hargs c).2.2.2.2.1) (fun c => (hargs c).2.2.2.2.2.1) (fun c => (hargs c).2.2.2.2.2.2) c
  · refine (θ_run Cert.ReferenceIdeal.defs _ _).mono (fun r h => ⟨(h 0).1.trans ?_, (h 0).2⟩) (Cert.ReferenceIdeal.Value.run (F := Ideal) m' g')
    rw [Cert.Tower.host_layer, Cert.Tower.host_layer, Cert.Tower.host_layer]
    rfl

/-- The five claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
